-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S160x48x128 : Shape := ⟨3, ![160, 48, 128]⟩
abbrev S20480 : Shape := ⟨1, ![20480]⟩
abbrev S320x256 : Shape := ⟨2, ![320, 256]⟩
abbrev S320x384 : Shape := ⟨2, ![320, 384]⟩
abbrev S20480x384 : Shape := ⟨2, ![20480, 384]⟩
abbrev S320x192 : Shape := ⟨2, ![320, 192]⟩
abbrev S384x320 : Shape := ⟨2, ![384, 320]⟩
abbrev S160x320x128 : Shape := ⟨3, ![160, 320, 128]⟩
abbrev S384x960 : Shape := ⟨2, ![384, 960]⟩
abbrev S16x256 : Shape := ⟨2, ![16, 256]⟩
abbrev S160x16x128 : Shape := ⟨3, ![160, 16, 128]⟩
abbrev S160x256 : Shape := ⟨2, ![160, 256]⟩
abbrev S128x256 : Shape := ⟨2, ![128, 256]⟩
abbrev S1x256 : Shape := ⟨2, ![1, 256]⟩
abbrev S160x128 : Shape := ⟨2, ![160, 128]⟩
abbrev S160x1x128 : Shape := ⟨3, ![160, 1, 128]⟩
abbrev S160x2x128 : Shape := ⟨3, ![160, 2, 128]⟩
abbrev S1x20480 : Shape := ⟨2, ![1, 20480]⟩
abbrev S192x20480 : Shape := ⟨2, ![192, 20480]⟩
abbrev S4x320x128 : Shape := ⟨3, ![4, 320, 128]⟩
abbrev S4x48x128 : Shape := ⟨3, ![4, 48, 128]⟩
abbrev S512x384 : Shape := ⟨2, ![512, 384]⟩
abbrev S1x512 : Shape := ⟨2, ![1, 512]⟩
abbrev S192x512 : Shape := ⟨2, ![192, 512]⟩
abbrev S384x128 : Shape := ⟨2, ![384, 128]⟩
abbrev S1x320x128 : Shape := ⟨3, ![1, 320, 128]⟩
abbrev S320x128 : Shape := ⟨2, ![320, 128]⟩
abbrev S960x128 : Shape := ⟨2, ![960, 128]⟩
abbrev S1x128 : Shape := ⟨2, ![1, 128]⟩
abbrev S128 : Shape := ⟨1, ![128]⟩
abbrev S1x48x128 : Shape := ⟨3, ![1, 48, 128]⟩
abbrev S48x128 : Shape := ⟨2, ![48, 128]⟩
abbrev S192x128 : Shape := ⟨2, ![192, 128]⟩
abbrev S128x384 : Shape := ⟨2, ![128, 384]⟩
abbrev S20480x192 : Shape := ⟨2, ![20480, 192]⟩

abbrev nBuf : Space → Nat
  | .hbm => 24
  | .vmem => 28
  | .smem => 0
  | _ => 0

abbrev bufTy : (tb : Table) → Fin (tcTables nBuf tb) → BufTy
  | .hbm, ⟨0, _⟩ => ⟨S160x48x128, .i32⟩
  | .hbm, ⟨1, _⟩ => ⟨S20480, .f32⟩
  | .hbm, ⟨2, _⟩ => ⟨S20480, .f32⟩
  | .hbm, ⟨3, _⟩ => ⟨S20480, .f32⟩
  | .hbm, ⟨4, _⟩ => ⟨S320x256, .i32⟩
  | .hbm, ⟨5, _⟩ => ⟨S320x384, .f32⟩
  | .hbm, ⟨6, _⟩ => ⟨S20480x384, .i32⟩
  | .hbm, ⟨7, _⟩ => ⟨S320x192, .f32⟩
  | .hbm, ⟨8, _⟩ => ⟨S320x192, .f32⟩
  | .hbm, ⟨9, _⟩ => ⟨S320x384, .f32⟩
  | .hbm, ⟨10, _⟩ => ⟨S384x320, .f32⟩
  | .hbm, ⟨11, _⟩ => ⟨S160x320x128, .bf16⟩
  | .hbm, ⟨12, _⟩ => ⟨S384x960, .bf16⟩
  | .hbm, ⟨13, _⟩ => ⟨S1x20480, .f32⟩
  | .hbm, ⟨14, _⟩ => ⟨S1x20480, .f32⟩
  | .hbm, ⟨15, _⟩ => ⟨S1x20480, .f32⟩
  | .hbm, ⟨16, _⟩ => ⟨S192x20480, .i8⟩
  | .hbm, ⟨17, _⟩ => ⟨S1x20480, .f32⟩
  | .hbm, ⟨18, _⟩ => ⟨S1x20480, .f32⟩
  | .hbm, ⟨19, _⟩ => ⟨S1x20480, .f32⟩
  | .hbm, ⟨20, _⟩ => ⟨S20480x192, .i8⟩
  | .hbm, ⟨21, _⟩ => ⟨S20480, .f32⟩
  | .hbm, ⟨22, _⟩ => ⟨S20480, .f32⟩
  | .hbm, ⟨23, _⟩ => ⟨S20480, .f32⟩
  | .local _ .vmem, ⟨0, _⟩ => ⟨S16x256, .i32⟩
  | .local _ .vmem, ⟨1, _⟩ => ⟨S16x256, .i32⟩
  | .local _ .vmem, ⟨2, _⟩ => ⟨S384x320, .f32⟩
  | .local _ .vmem, ⟨3, _⟩ => ⟨S160x16x128, .bf16⟩
  | .local _ .vmem, ⟨4, _⟩ => ⟨S160x16x128, .bf16⟩
  | .local _ .vmem, ⟨5, _⟩ => ⟨S384x960, .bf16⟩
  | .local _ .vmem, ⟨6, _⟩ => ⟨S384x960, .bf16⟩
  | .local _ .vmem, ⟨7, _⟩ => ⟨S4x320x128, .bf16⟩
  | .local _ .vmem, ⟨8, _⟩ => ⟨S4x320x128, .bf16⟩
  | .local _ .vmem, ⟨9, _⟩ => ⟨S4x48x128, .i32⟩
  | .local _ .vmem, ⟨10, _⟩ => ⟨S4x48x128, .i32⟩
  | .local _ .vmem, ⟨11, _⟩ => ⟨S512x384, .i32⟩
  | .local _ .vmem, ⟨12, _⟩ => ⟨S512x384, .i32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S192x512, .i8⟩
  | .local _ .vmem, ⟨20, _⟩ => ⟨S192x512, .i8⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S384x128, .i32⟩
  | _, _ => ⟨S160x48x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S384x960 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x320x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x48x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x384 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S192x512 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S160x48x128 : Shape := ⟨3, ![160, 48, 128]⟩
abbrev S20480 : Shape := ⟨1, ![20480]⟩
abbrev S320x256 : Shape := ⟨2, ![320, 256]⟩
abbrev S320x384 : Shape := ⟨2, ![320, 384]⟩
abbrev S20480x384 : Shape := ⟨2, ![20480, 384]⟩
abbrev S320x1x384 : Shape := ⟨3, ![320, 1, 384]⟩
abbrev S320x256x384 : Shape := ⟨3, ![320, 256, 384]⟩
abbrev S81920x384 : Shape := ⟨2, ![81920, 384]⟩
abbrev S81920 : Shape := ⟨1, ![81920]⟩
abbrev S_ : Shape := ⟨0, ![]⟩
abbrev S81920x1 : Shape := ⟨2, ![81920, 1]⟩
abbrev S160x48x128x1 : Shape := ⟨4, ![160, 48, 128, 1]⟩
abbrev S160x48x128x4 : Shape := ⟨4, ![160, 48, 128, 4]⟩
abbrev S160x128x48x4 : Shape := ⟨4, ![160, 128, 48, 4]⟩
abbrev S20480x192 : Shape := ⟨2, ![20480, 192]⟩
abbrev S20480x192x1 : Shape := ⟨3, ![20480, 192, 1]⟩
abbrev S20480x192x2 : Shape := ⟨3, ![20480, 192, 2]⟩
abbrev S20480x1 : Shape := ⟨2, ![20480, 1]⟩

abbrev nBuf : Space → Nat
  | .hbm => 126
  | .vmem => 0
  | .smem => 0
  | _ => 0

abbrev bufTy : (tb : Table) → Fin (tcTables nBuf tb) → BufTy
  | .hbm, ⟨0, _⟩ => ⟨S160x48x128, .i32⟩
  | .hbm, ⟨1, _⟩ => ⟨S20480, .f32⟩
  | .hbm, ⟨2, _⟩ => ⟨S20480, .f32⟩
  | .hbm, ⟨3, _⟩ => ⟨S20480, .f32⟩
  | .hbm, ⟨4, _⟩ => ⟨S320x256, .i32⟩
  | .hbm, ⟨5, _⟩ => ⟨S320x384, .f32⟩
  | .hbm, ⟨6, _⟩ => ⟨S20480x384, .i32⟩
  | .hbm, ⟨7, _⟩ => ⟨S320x1x384, .f32⟩
  | .hbm, ⟨8, _⟩ => ⟨S320x256x384, .f32⟩
  | .hbm, ⟨9, _⟩ => ⟨S81920x384, .f32⟩
  | .hbm, ⟨10, _⟩ => ⟨S81920, .i32⟩
  | .hbm, ⟨11, _⟩ => ⟨S_, .f32⟩
  | .hbm, ⟨12, _⟩ => ⟨S20480x384, .f32⟩
  | .hbm, ⟨13, _⟩ => ⟨S81920x1, .i32⟩
  | .hbm, ⟨14, _⟩ => ⟨S20480x384, .f32⟩
  | .hbm, ⟨15, _⟩ => ⟨S_, .i32⟩
  | .hbm, ⟨16, _⟩ => ⟨S160x48x128, .i32⟩
  | .hbm, ⟨17, _⟩ => ⟨S160x48x128, .i32⟩
  | .hbm, ⟨18, _⟩ => ⟨S_, .i32⟩
  | .hbm, ⟨19, _⟩ => ⟨S160x48x128, .i32⟩
  | .hbm, ⟨20, _⟩ => ⟨S160x48x128, .i32⟩
  | .hbm, ⟨21, _⟩ => ⟨S_, .i32⟩
  | .hbm, ⟨22, _⟩ => ⟨S160x48x128, .i32⟩
  | .hbm, ⟨23, _⟩ => ⟨S160x48x128, .i32⟩
  | .hbm, ⟨24, _⟩ => ⟨S_, .i32⟩
  | .hbm, ⟨25, _⟩ => ⟨S160x48x128, .i32⟩
  | .hbm, ⟨26, _⟩ => ⟨S160x48x128, .i32⟩
  | .hbm, ⟨27, _⟩ => ⟨S_, .i32⟩
  | .hbm, ⟨28, _⟩ => ⟨S160x48x128, .i32⟩
  | .hbm, ⟨29, _⟩ => ⟨S160x48x128, .i32⟩
  | .hbm, ⟨30, _⟩ => ⟨S_, .i32⟩
  | .hbm, ⟨31, _⟩ => ⟨S160x48x128, .i32⟩
  | .hbm, ⟨32, _⟩ => ⟨S160x48x128, .i32⟩
  | .hbm, ⟨33, _⟩ => ⟨S_, .i32⟩
  | .hbm, ⟨34, _⟩ => ⟨S160x48x128, .i32⟩
  | .hbm, ⟨35, _⟩ => ⟨S160x48x128, .i32⟩
  | .hbm, ⟨36, _⟩ => ⟨S_, .i32⟩
  | .hbm, ⟨37, _⟩ => ⟨S160x48x128, .i32⟩
  | .hbm, ⟨38, _⟩ => ⟨S160x48x128, .i32⟩
  | .hbm, ⟨39, _⟩ => ⟨S160x48x128x1, .i32⟩
  | .hbm, ⟨40, _⟩ => ⟨S160x48x128x1, .i32⟩
  | .hbm, ⟨41, _⟩ => ⟨S160x48x128x1, .i32⟩
  | .hbm, ⟨42, _⟩ => ⟨S160x48x128x1, .i32⟩
  | .hbm, ⟨43, _⟩ => ⟨S160x48x128x4, .i32⟩
  | .hbm, ⟨44, _⟩ => ⟨S160x128x48x4, .i32⟩
  | .hbm, ⟨45, _⟩ => ⟨S20480x192, .i32⟩
  | .hbm, ⟨46, _⟩ => ⟨S_, .i32⟩
  | .hbm, ⟨47, _⟩ => ⟨S20480x192, .i32⟩
  | .hbm, ⟨48, _⟩ => ⟨S20480x192, .i32⟩
  | .hbm, ⟨49, _⟩ => ⟨S_, .i32⟩
  | .hbm, ⟨50, _⟩ => ⟨S20480x192, .i32⟩
  | .hbm, ⟨51, _⟩ => ⟨S20480x192, .i32⟩
  | .hbm, ⟨52, _⟩ => ⟨S20480x192x1, .i32⟩
  | .hbm, ⟨53, _⟩ => ⟨S20480x192x1, .i32⟩
  | .hbm, ⟨54, _⟩ => ⟨S20480x192x2, .i32⟩
  | .hbm, ⟨55, _⟩ => ⟨S20480x384, .i32⟩
  | .hbm, ⟨56, _⟩ => ⟨S20480x384, .f32⟩
  | .hbm, ⟨57, _⟩ => ⟨S20480x1, .f32⟩
  | .hbm, ⟨58, _⟩ => ⟨S20480x384, .f32⟩
  | .hbm, ⟨59, _⟩ => ⟨S20480x384, .f32⟩
  | .hbm, ⟨60, _⟩ => ⟨S20480x1, .f32⟩
  | .hbm, ⟨61, _⟩ => ⟨S20480x384, .f32⟩
  | .hbm, ⟨62, _⟩ => ⟨S20480x384, .f32⟩
  | .hbm, ⟨63, _⟩ => ⟨S20480x384, .f32⟩
  | .hbm, ⟨64, _⟩ => ⟨S_, .f32⟩
  | .hbm, ⟨65, _⟩ => ⟨S20480, .f32⟩
  | .hbm, ⟨66, _⟩ => ⟨S_, .f32⟩
  | .hbm, ⟨67, _⟩ => ⟨S20480, .f32⟩
  | .hbm, ⟨68, _⟩ => ⟨S20480, .f32⟩
  | .hbm, ⟨69, _⟩ => ⟨S20480, .f32⟩
  | .hbm, ⟨70, _⟩ => ⟨S20480, .f32⟩
  | .hbm, ⟨71, _⟩ => ⟨S_, .f32⟩
  | .hbm, ⟨72, _⟩ => ⟨S20480, .f32⟩
  | .hbm, ⟨73, _⟩ => ⟨S20480, .f32⟩
  | .hbm, ⟨74, _⟩ => ⟨S_, .f32⟩
  | .hbm, ⟨75, _⟩ => ⟨S20480, .f32⟩
  | .hbm, ⟨76, _⟩ => ⟨S20480, .f32⟩
  | .hbm, ⟨77, _⟩ => ⟨S20480x1, .f32⟩
  | .hbm, ⟨78, _⟩ => ⟨S20480x384, .f32⟩
  | .hbm, ⟨79, _⟩ => ⟨S20480x384, .f32⟩
  | .hbm, ⟨80, _⟩ => ⟨S20480x384, .f32⟩
  | .hbm, ⟨81, _⟩ => ⟨S_, .f32⟩
  | .hbm, ⟨82, _⟩ => ⟨S20480, .f32⟩
  | .hbm, ⟨83, _⟩ => ⟨S_, .f32⟩
  | .hbm, ⟨84, _⟩ => ⟨S20480, .f32⟩
  | .hbm, ⟨85, _⟩ => ⟨S20480, .f32⟩
  | .hbm, ⟨86, _⟩ => ⟨S_, .f32⟩
  | .hbm, ⟨87, _⟩ => ⟨S20480, .f32⟩
  | .hbm, ⟨88, _⟩ => ⟨S20480, .f32⟩
  | .hbm, ⟨89, _⟩ => ⟨S_, .f32⟩
  | .hbm, ⟨90, _⟩ => ⟨S20480, .f32⟩
  | .hbm, ⟨91, _⟩ => ⟨S20480, .f32⟩
  | .hbm, ⟨92, _⟩ => ⟨S_, .f32⟩
  | .hbm, ⟨93, _⟩ => ⟨S20480, .f32⟩
  | .hbm, ⟨94, _⟩ => ⟨S20480, .f32⟩
  | .hbm, ⟨95, _⟩ => ⟨S20480x1, .f32⟩
  | .hbm, ⟨96, _⟩ => ⟨S20480x384, .f32⟩
  | .hbm, ⟨97, _⟩ => ⟨S20480x384, .f32⟩
  | .hbm, ⟨98, _⟩ => ⟨S20480x1, .f32⟩
  | .hbm, ⟨99, _⟩ => ⟨S20480x384, .f32⟩
  | .hbm, ⟨100, _⟩ => ⟨S20480x384, .f32⟩
  | .hbm, ⟨101, _⟩ => ⟨S_, .i32⟩
  | .hbm, ⟨102, _⟩ => ⟨S20480x384, .i32⟩
  | .hbm, ⟨103, _⟩ => ⟨S20480x384, .i32⟩
  | .hbm, ⟨104, _⟩ => ⟨S20480x384, .f32⟩
  | .hbm, ⟨105, _⟩ => ⟨S_, .f32⟩
  | .hbm, ⟨106, _⟩ => ⟨S20480x384, .f32⟩
  | .hbm, ⟨107, _⟩ => ⟨S20480x384, .f32⟩
  | .hbm, ⟨108, _⟩ => ⟨S20480x384, .f32⟩
  | .hbm, ⟨109, _⟩ => ⟨S20480x384, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S20480x384, .f32⟩
  | .hbm, ⟨114, _⟩ => ⟨S20480x384, .f32⟩
  | .hbm, ⟨115, _⟩ => ⟨S_, .f32⟩
  | .hbm, ⟨116, _⟩ => ⟨S20480x384, .f32⟩
  | .hbm, ⟨117, _⟩ => ⟨S20480x384, .f32⟩
  | .hbm, ⟨118, _⟩ => ⟨S20480x384, .i32⟩
  | .hbm, ⟨119, _⟩ => ⟨S20480x192, .i32⟩
  | .hbm, ⟨120, _⟩ => ⟨S20480x192, .i32⟩
  | .hbm, ⟨121, _⟩ => ⟨S_, .i32⟩
  | .hbm, ⟨122, _⟩ => ⟨S20480x192, .i32⟩
  | .hbm, ⟨123, _⟩ => ⟨S20480x192, .i32⟩
  | .hbm, ⟨124, _⟩ => ⟨S20480x192, .i32⟩
  | .hbm, ⟨125, _⟩ => ⟨S20480x192, .i8⟩
  | _, _ => ⟨S160x48x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_cst_21 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_22 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== Proof.Run.CountRegion.lean ====
/-
  REGION 0 of @main, the count matrix: what its kernel body leaves in each buffer at each grid point, from the contents
  the region is entered with. The body counts, for sixteen bags a point, how often each embedding row is looked up, and
  at the first point only splits the gradients into three pieces; so the split gradients' buffer is left alone at
  every later point and written back at the last.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S384x320 := Rect.unit (s := S384x320) ![0, 0] S384x320.size inb_S384x320_S384x320_0_0
abbrev r0_1 : Rect S384x960 := Rect.unit (s := S384x960) ![0, 0] S384x960.size inb_S384x960_S384x960_0_0
abbrev r0_2 : Rect S16x256 := Rect.unit (s := S16x256) ![0, 0] S1x256.size inb_S16x256_S1x256_0_0
abbrev r0_3 : Rect S16x256 := Rect.unit (s := S16x256) ![1, 0] S1x256.size inb_S16x256_S1x256_1_0
abbrev r0_4 : Rect S160x16x128 := Rect.unit (s := S160x16x128) ![0, 0, 0] S160x2x128.size inb_S160x16x128_S160x2x128_0_0_0
abbrev r0_5 : Rect S16x256 := Rect.unit (s := S16x256) ![2, 0] S1x256.size inb_S16x256_S1x256_2_0
abbrev r0_6 : Rect S16x256 := Rect.unit (s := S16x256) ![3, 0] S1x256.size inb_S16x256_S1x256_3_0
abbrev r0_7 : Rect S160x16x128 := Rect.unit (s := S160x16x128) ![0, 2, 0] S160x2x128.size inb_S160x16x128_S160x2x128_0_2_0
abbrev r0_8 : Rect S16x256 := Rect.unit (s := S16x256) ![4, 0] S1x256.size inb_S16x256_S1x256_4_0
abbrev r0_9 : Rect S16x256 := Rect.unit (s := S16x256) ![5, 0] S1x256.size inb_S16x256_S1x256_5_0
abbrev r0_10 : Rect S160x16x128 := Rect.unit (s := S160x16x128) ![0, 4, 0] S160x2x128.size inb_S160x16x128_S160x2x128_0_4_0
abbrev r0_11 : Rect S16x256 := Rect.unit (s := S16x256) ![6, 0] S1x256.size inb_S16x256_S1x256_6_0
abbrev r0_12 : Rect S16x256 := Rect.unit (s := S16x256) ![7, 0] S1x256.size inb_S16x256_S1x256_7_0
abbrev r0_13 : Rect S160x16x128 := Rect.unit (s := S160x16x128) ![0, 6, 0] S160x2x128.size inb_S160x16x128_S160x2x128_0_6_0
abbrev r0_14 : Rect S16x256 := Rect.unit (s := S16x256) ![8, 0] S1x256.size inb_S16x256_S1x256_8_0
abbrev r0_15 : Rect S16x256 := Rect.unit (s := S16x256) ![9, 0] S1x256.size inb_S16x256_S1x256_9_0
abbrev r0_16 : Rect S160x16x128 := Rect.unit (s := S160x16x128) ![0, 8, 0] S160x2x128.size inb_S160x16x128_S160x2x128_0_8_0
abbrev r0_17 : Rect S16x256 := Rect.unit (s := S16x256) ![10, 0] S1x256.size inb_S16x256_S1x256_10_0
abbrev r0_18 : Rect S16x256 := Rect.unit (s := S16x256) ![11, 0] S1x256.size inb_S16x256_S1x256_11_0
abbrev r0_19 : Rect S160x16x128 := Rect.unit (s := S160x16x128) ![0, 10, 0] S160x2x128.size inb_S160x16x128_S160x2x128_0_10_0
abbrev r0_20 : Rect S16x256 := Rect.unit (s := S16x256) ![12, 0] S1x256.size inb_S16x256_S1x256_12_0
abbrev r0_21 : Rect S16x256 := Rect.unit (s := S16x256) ![13, 0] S1x256.size inb_S16x256_S1x256_13_0
abbrev r0_22 : Rect S160x16x128 := Rect.unit (s := S160x16x128) ![0, 12, 0] S160x2x128.size inb_S160x16x128_S160x2x128_0_12_0
abbrev r0_23 : Rect S16x256 := Rect.unit (s := S16x256) ![14, 0] S1x256.size inb_S16x256_S1x256_14_0
abbrev r0_24 : Rect S16x256 := Rect.unit (s := S16x256) ![15, 0] S1x256.size inb_S16x256_S1x256_15_0
abbrev r0_25 : Rect S160x16x128 := Rect.unit (s := S160x16x128) ![0, 14, 0] S160x2x128.size inb_S160x16x128_S160x2x128_0_14_0
/-! ## What the body leaves in each output window's buffer -/

/-- The high halves of the row numbers, one per row of the counts, -/
abbrev hiIota : IVec S160x256 32 := iota .tc S160x256 32 [0] iota_S160x256_d0_w32
/-- and the low halves. -/
abbrev loIota : IVec S128x256 32 := iota .tc S128x256 32 [0] iota_S128x256_d0_w32

/-- What the body stores for two bags, from their two rows of slots: the counts of the first bag and of the
    second, side by side. (The printed body writes the same chain of operations out eight times, cut into parts at
    different places; every copy unfolds to this one.) -/
def pairCounts (row row' : Vec F S1x256 .i32) : FVec F S160x2x128 .bf16 :=
  k0_pay24 (F := F) hiIota loIota (k0_pay23 hiIota loIota row) row'

theorem pair_0 (row row' : Vec F S1x256 .i32) : k0_pay8 (k0_pay3 row) (k0_pay4 row') (k0_pay5 row') k0_pay6 k0_pay7 = pairCounts row row' := rfl
theorem pair_1 (row row' : Vec F S1x256 .i32) : k0_pay12 (k0_pay9 hiIota loIota row) (k0_pay10 hiIota row') (k0_pay11 loIota row') = pairCounts row row' := rfl
theorem pair_2 (row row' : Vec F S1x256 .i32) : k0_pay15 loIota (k0_pay13 hiIota loIota row) row' (k0_pay14 hiIota row') 127#32 = pairCounts row row' := rfl
theorem pair_3 (row row' : Vec F S1x256 .i32) : k0_pay19 loIota (k0_pay16 hiIota loIota row) row' (k0_pay17 hiIota row') (Scalar.ofBits .f32 0x00000000#32) k0_pay18 = pairCounts row row' := rfl
theorem pair_4 (row row' : Vec F S1x256 .i32) : k0_pay22 hiIota loIota (k0_pay20 hiIota loIota row) row' (k0_pay21 row') = pairCounts row row' := rfl
theorem pair_5 (row row' : Vec F S1x256 .i32) : k0_pay24 hiIota loIota (k0_pay23 hiIota loIota row) row' = pairCounts row row' := rfl
theorem pair_6 (row row' : Vec F S1x256 .i32) : k0_pay26 hiIota loIota (k0_pay25 hiIota loIota row) row' = pairCounts row row' := rfl
theorem pair_7 (row row' : Vec F S1x256 .i32) : k0_pay1 hiIota loIota (k0_pay27 hiIota row) (k0_pay28 loIota row) k0_pay29 k0_pay30 row' = pairCounts row row' := rfl

/-- The counts' buffer after the body, from the slots' block: its 8 stores, two bags each, last first. -/
def out0_2 (x0 : Vec F S16x256 .i32) : Vec F S160x16x128 .bf16 :=
  View.canon [⟨r0_25, k0_pay1 hiIota loIota (k0_pay27 hiIota (View.ld x0 r0_23)) (k0_pay28 loIota (View.ld x0 r0_23)) k0_pay29 k0_pay30 (View.ld x0 r0_24)⟩,
    ⟨r0_22, k0_pay26 hiIota loIota (k0_pay25 hiIota loIota (View.ld x0 r0_20)) (View.ld x0 r0_21)⟩,
    ⟨r0_19, k0_pay24 hiIota loIota (k0_pay23 hiIota loIota (View.ld x0 r0_17)) (View.ld x0 r0_18)⟩,
    ⟨r0_16, k0_pay22 hiIota loIota (k0_pay20 hiIota loIota (View.ld x0 r0_14)) (View.ld x0 r0_15) (k0_pay21 (View.ld x0 r0_15))⟩,
    ⟨r0_13, k0_pay19 loIota (k0_pay16 hiIota loIota (View.ld x0 r0_11)) (View.ld x0 r0_12) (k0_pay17 hiIota (View.ld x0 r0_12)) (Scalar.ofBits .f32 0x00000000#32) k0_pay18⟩,
    ⟨r0_10, k0_pay15 loIota (k0_pay13 hiIota loIota (View.ld x0 r0_8)) (View.ld x0 r0_9) (k0_pay14 hiIota (View.ld x0 r0_9)) 127#32⟩,
    ⟨r0_7, k0_pay12 (k0_pay9 hiIota loIota (View.ld x0 r0_5)) (k0_pay10 hiIota (View.ld x0 r0_6)) (k0_pay11 loIota (View.ld x0 r0_6))⟩,
    ⟨r0_4, k0_pay8 (k0_pay3 (View.ld x0 r0_2)) (k0_pay4 (View.ld x0 r0_3)) (k0_pay5 (View.ld x0 r0_3)) k0_pay6 k0_pay7⟩]

/-- The same, every pair by the one chain of operations. -/
theorem out0_2_eq (x0 : Vec F S16x256 .i32) : out0_2 x0 =
    View.canon [⟨r0_25, pairCounts (View.ld x0 r0_23) (View.ld x0 r0_24)⟩,
    ⟨r0_22, pairCounts (View.ld x0 r0_20) (View.ld x0 r0_21)⟩,
    ⟨r0_19, pairCounts (View.ld x0 r0_17) (View.ld x0 r0_18)⟩,
    ⟨r0_16, pairCounts (View.ld x0 r0_14) (View.ld x0 r0_15)⟩,
    ⟨r0_13, pairCounts (View.ld x0 r0_11) (View.ld x0 r0_12)⟩,
    ⟨r0_10, pairCounts (View.ld x0 r0_8) (View.ld x0 r0_9)⟩,
    ⟨r0_7, pairCounts (View.ld x0 r0_5) (View.ld x0 r0_6)⟩,
    ⟨r0_4, pairCounts (View.ld x0 r0_2) (View.ld x0 r0_3)⟩] := by
  unfold out0_2
  rw [pair_0, pair_1, pair_2, pair_3, pair_4, pair_5, pair_6, pair_7]

/-- Its stores tile the buffer (checked by evaluation), so they cover it. -/
theorem cover0_2 (p0 : Vec F S160x2x128 .bf16) (p1 : Vec F S160x2x128 .bf16) (p2 : Vec F S160x2x128 .bf16) (p3 : Vec F S160x2x128 .bf16) (p4 : Vec F S160x2x128 .bf16) (p5 : Vec F S160x2x128 .bf16) (p6 : Vec F S160x2x128 .bf16) (p7 : Vec F S160x2x128 .bf16) (y : S160x16x128.Idx) :
    ∃ pc ∈ ([⟨r0_25, p0⟩, ⟨r0_22, p1⟩, ⟨r0_19, p2⟩, ⟨r0_16, p3⟩, ⟨r0_13, p4⟩, ⟨r0_10, p5⟩, ⟨r0_7, p6⟩, ⟨r0_4, p7⟩] : List (View.Piece (Elt F) S160x16x128 .bf16)), y ∈ pc.1.set :=
  View.cover_of_tiled [⟨r0_25, p0⟩, ⟨r0_22, p1⟩, ⟨r0_19, p2⟩, ⟨r0_16, p3⟩, ⟨r0_13, p4⟩, ⟨r0_10, p5⟩, ⟨r0_7, p6⟩, ⟨r0_4, p7⟩] S160x2x128.size (by rfl) y

/-- The split gradients' buffer after the body at the first point, from the gradients' block. -/
def out0_3 (x1 : Vec F S384x320 .f32) : Vec F S384x960 .bf16 :=
  View.canon [⟨r0_1, k0_pay2 (View.ld x1 r0_0)⟩]

/-- Its stores tile the buffer (checked by evaluation), so they cover it. -/
theorem cover0_3 (p0 : Vec F S384x960 .bf16) (y : S384x960.Idx) :
    ∃ pc ∈ ([⟨r0_1, p0⟩] : List (View.Piece (Elt F) S384x960 .bf16)), y ∈ pc.1.set :=
  View.cover_of_tiled [⟨r0_1, p0⟩] S384x960.size (by rfl) y

/-! ## The body's branch, and the points at which the split gradients are left alone -/

/-- The condition of the body's one branch, from the grid coordinates. -/
abbrev cond0_0 (i : grid0.Coords) : Prop := k0_cond1 i = 1#1
/-- It holds at the first point only. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The split gradients are stored where the branch is taken, and left alone elsewhere. -/
theorem liveAt0_3 (t : Fin cfg0.N) (h : cond0_0 (grid0.coords t)) : cfg0.idle 3 (grid0.coords t) = false := by
  show (!(k0_cond1 (grid0.coords t) == 1#1)) = false
  rw [show k0_cond1 (grid0.coords t) = 1#1 from h]; rfl
theorem idleAt0_3 (t : Fin cfg0.N) (h : ¬cond0_0 (grid0.coords t)) : cfg0.idle 3 (grid0.coords t) = true := by
  show (!(k0_cond1 (grid0.coords t) == 1#1)) = true
  rw [Bool.not_eq_true', beq_eq_false_iff_ne]; exact h

/-- Whether the split gradients' buffer holds nothing the body stored when the body runs at a position: at the
    first point, and after the last. -/
def freshTab0_3 : ℕ → Bool
  | 0 => true
  | n + 1 => n == 19
theorem freshTab0_3_step : ∀ t : Fin cfg0.N,
    freshTab0_3 (t.val + 1) = ((cfg0.win 3).flush t || (cfg0.idle 3 (cfg0.grid.coords t) && freshTab0_3 t.val)) := by
  intro t
  have ht : t.val < 20 := Nat.lt_of_lt_of_eq t.isLt N_0
  have hfl := flush0_3 t
  by_cases hc : t.val % 20 = 0
  · rw [show cfg0.idle 3 (cfg0.grid.coords t) = false from liveAt0_3 t ((hcond0_0 t).mpr hc), Bool.false_and, Bool.or_false]
    rw [Bool.eq_iff_iff, hfl]
    show (t.val == 19) = true ↔ _
    rw [beq_iff_eq]; omega
  · obtain ⟨n, hn⟩ : ∃ n, t.val = n + 1 := ⟨t.val - 1, by omega⟩
    rw [show cfg0.idle 3 (cfg0.grid.coords t) = true from idleAt0_3 t (fun h => hc ((hcond0_0 t).mp h)), Bool.true_and]
    rw [show freshTab0_3 t.val = false from by
      rw [hn]; show (n == 19) = false; rw [beq_eq_false_iff_ne]; omega, Bool.or_false]
    rw [Bool.eq_iff_iff, hfl]
    show (t.val == 19) = true ↔ _
    rw [beq_iff_eq]; omega
theorem fresh0_3_eq (t : Fin cfg0.N) : cfg0.fresh 3 t.val = freshTab0_3 t.val :=
  Pipeline.Cfg.fresh_tab cfg0 3 freshTab0_3 rfl freshTab0_3_step t.val (Nat.le_of_lt t.isLt)

/-! ## The body's triples -/

set_option maxHeartbeats 1000000 in
/-- THE BODY AT THE FIRST POINT: on whole staging memrefs, the inputs' at read contents and the outputs' at anything,
    the body runs to the continuation holding the counts of the slots' block and the split of the gradients. -/
theorem sound_kernel0_A (c : Dev nD) (E : Set ℕ) (i : grid0.Coords) (arg1 : Memref sig .tc .vmem S16x256 .i32) (harg1 : arg1.IsWhole) (arg2 : Memref sig .tc .vmem S384x320 .f32) (harg2 : arg2.IsWhole) (arg3 : Memref sig .tc .vmem S160x16x128 .bf16) (harg3 : arg3.IsWhole) (arg4 : Memref sig .tc .vmem S384x960 .bf16) (harg4 : arg4.IsWhole) (hc0 : cond0_0 i)
    (x0 : Vec F S16x256 .i32) (x1 : Vec F S384x320 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1)) -∗ K ⟨⟩))
      ⊢ wp frame (wpE (defs₀ (F := F)) Variants.none c none) E (cc0_count_matrix i arg1 harg1 arg2 harg2 arg3 harg3 arg4 harg4) K := by
  simp only [cc0_count_matrix_eq_skeleton]; unfold cc0_count_matrix_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  iexists _; isplitr
  swap; · iexact H3
  ipureintro
  refine (View.read_writes_eq_canon _ _ _ (cover0_3 _)).trans ?_
  rfl

set_option maxHeartbeats 1000000 in
/-- THE BODY AT ANY LATER POINT: the same, and the split gradients' buffer as it was found. -/
theorem sound_kernel0_B (c : Dev nD) (E : Set ℕ) (i : grid0.Coords) (arg1 : Memref sig .tc .vmem S16x256 .i32) (harg1 : arg1.IsWhole) (arg2 : Memref sig .tc .vmem S384x320 .f32) (harg2 : arg2.IsWhole) (arg3 : Memref sig .tc .vmem S160x16x128 .bf16) (harg3 : arg3.IsWhole) (arg4 : Memref sig .tc .vmem S384x960 .bf16) (harg4 : arg4.IsWhole) (hc0 : ¬cond0_0 i)
    (x0 : Vec F S16x256 .i32) (x1 : Vec F S384x320 .f32) (x3 : Vec F S384x960 .bf16) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3
        ∗ (iprop(owns (c : Thread nD τ) arg1 fullShare x0 ∗ owns (c : Thread nD τ) arg2 fullShare x1 ∗ owns (c : Thread nD τ) arg3 fullShare (out0_2 x0) ∗ owns (c : Thread nD τ) arg4 fullShare x3) -∗ K ⟨⟩))
      ⊢ wp frame (wpE (defs₀ (F := F)) Variants.none c none) E (cc0_count_matrix i arg1 harg1 arg2 harg2 arg3 harg3 arg4 harg4) K := by
  simp only [cc0_count_matrix_eq_skeleton]; unfold cc0_count_matrix_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, ⟨%f3, %hf3, H3⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  iexists f3; isplitr; · ipureintro; exact hf3
  iexact H3

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]
/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- The gradients' block is the same at every point. -/
theorem iblk0_1_const (c : Dev nD) (t t' : Fin cfg0.N) : iblk0 V c 1 t = iblk0 V c 1 t' := rfl

/-- What a later point finds in the split gradients' buffer: what the point before left there. -/
theorem before0_3 (c : Dev nD) (t : Fin cfg0.N) (h : ¬ t.val % 20 = 0) (d) : (dat0 V c).before 3 t d = out0_3 (iblk0 V c 1 t) := by
  have ht : t.val < 20 := Nat.lt_of_lt_of_eq t.isLt N_0
  have key := Dat.before_out_traj (dat0 V c) 3 rfl (fun _ _ => rfl)
    (fun t _ _ _ => by rw [after0_3, after0_3]; exact congrArg _ (iblk0_1_const V c _ _)) t.val t rfl d
  rw [fresh0_3_eq t] at key
  obtain ⟨n, hn⟩ : ∃ n, t.val = n + 1 := ⟨t.val - 1, by omega⟩
  rw [show freshTab0_3 t.val = false from by
      rw [hn]; show (n == 19) = false; rw [beq_eq_false_iff_ne]; omega, if_neg Bool.false_ne_true, after0_3] at key
  exact key.trans (congrArg _ (iblk0_1_const V c _ _))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- A later point hands the split gradients' buffer back as it must: found there, or (at the last point, which writes
    it back) what the proof data say. -/
theorem leaves0_3_later (c : Dev nD) (t : Fin cfg0.N) (h : ¬ t.val % 20 = 0) :
    (owns (c : Thread nD τ) (st0_3 t) fullShare (out0_3 (iblk0 V c 1 t)) : sProp 𝕄) ⊢ (dat0 V c).leavesExact 3 t := by
  have hidle : cfg0.idle 3 (cfg0.grid.coords t) = true := idleAt0_3 t (fun h' => h ((hcond0_0 t).mp h'))
  cases hf : (cfg0.win 3).flush t with
  | false =>
    rw [Dat.leavesExact_idle (dat0 V c) 3 t hidle hf]
    iintro H
    iexists (fun _ => default)
    rw [before0_3 V c t h]
    iexact H
  | true =>
    rw [show (dat0 V c).leavesExact 3 t = owns (c : Thread nD τ) (st0_3 t) fullShare ((dat0 V c).after 3 t) from by
      unfold Dat.leavesExact; rw [hidle, hf], after0_3]

set_option maxHeartbeats 800000 in
/-- The body at any point: the first by `sound_kernel0_A`, a later one by `sound_kernel0_B`; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  by_cases h0 : t.val % 20 = 0
  · rw [show (dat0 V c).leavesExact 3 t = owns (c : Thread nD τ) (st0_3 t) fullShare ((dat0 V c).after 3 t) from by
      unfold Dat.leavesExact; rw [liveAt0_3 t ((hcond0_0 t).mpr h0)], after0_3]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0_0 t).mpr h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0_0 t).mp h)) (iblk0 V c 0 t) (iblk0 V c 1 t) (out0_3 (iblk0 V c 1 t)) _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves0_3_later V c t h0)
    iexact H3

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.Run.UpdateRegion.lean ====
/-
  REGION 1 of @main, the row update: what its kernel body leaves in each output's buffer at each grid point, from the
  contents the region is entered with.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S192x512 .i8 := (Memref.whole cc1_stg7_0 : Memref sig .tc .vmem S192x512 .i8).view
/-- One staging buffer of output window 8, through which its contents are stated (`View.read_writes_of_cover`: the
    choice does not matter). -/
abbrev VO1_8 : View sig .tc .vmem S1x512 .f32 := (Memref.whole cc1_stg8_0 : Memref sig .tc .vmem S1x512 .f32).view
/-- One staging buffer of output window 9, through which its contents are stated (`View.read_writes_of_cover`: the
    choice does not matter). -/
abbrev VO1_9 : View sig .tc .vmem S1x512 .f32 := (Memref.whole cc1_stg9_0 : Memref sig .tc .vmem S1x512 .f32).view
/-- One staging buffer of output window 10, through which its contents are stated (`View.read_writes_of_cover`: the
    choice does not matter). -/
abbrev VO1_10 : View sig .tc .vmem S1x512 .f32 := (Memref.whole cc1_stg10_0 : Memref sig .tc .vmem S1x512 .f32).view
/-- Each window's current staging memref at point `t`, spelled as the pipeline passes it (`bodyAt1`), and its wholeness. -/
abbrev ms1_0 (t : Fin cfg1.N) : Memref sig .tc .vmem S384x960 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x320x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x48x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x384 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S192x512 .i8 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x512 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S384x128 .i32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) :
    Σ' (L7 : List (View.Piece (Elt F) S192x512 .i8)), Σ' (L8 : List (View.Piece (Elt F) S1x512 .f32)), Σ' (L9 : List (View.Piece (Elt F) S1x512 .f32)), Σ' (L10 : List (View.Piece (Elt F) S1x512 .f32)), { LT0 : List (View.Piece (Elt F) S384x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0)) -∗ K ⟨⟩))
          ⊢ wp frame (wpE (defs₀ (F := F)) Variants.none c none) E (cc1_adagrad_update i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_adagrad_update_eq_skeleton]; unfold cc1_adagrad_update_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

/-- The run's pieces for output 7 tile its block (4 stores of `S192x128`, checked by the kernel's evaluation: Lib/Ring.lean `Piece.tiledL`, linear in the pieces, through a loop's `@[irreducible]` trip theorem too), so they cover it. -/
theorem cover1_A_7 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S192x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1 S192x128.size (by sl_kernel_rfl) y

/-- What the run leaves in output 7's staging buffer: its pieces read back over junk. -/
def out1_A_7 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S192x512 .i8 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1)

/-- The run's pieces for output 8 tile its block (4 stores of `S1x128`, checked by the kernel's evaluation: Lib/Ring.lean `Piece.tiledL`, linear in the pieces, through a loop's `@[irreducible]` trip theorem too), so they cover it. -/
theorem cover1_A_8 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1 S1x128.size (by sl_kernel_rfl) y

/-- What the run leaves in output 8's staging buffer: its pieces read back over junk. -/
def out1_A_8 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S1x512 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1)

/-- The run's pieces for output 9 tile its block (4 stores of `S1x128`, checked by the kernel's evaluation: Lib/Ring.lean `Piece.tiledL`, linear in the pieces, through a loop's `@[irreducible]` trip theorem too), so they cover it. -/
theorem cover1_A_9 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 S1x128.size (by sl_kernel_rfl) y

/-- What the run leaves in output 9's staging buffer: its pieces read back over junk. -/
def out1_A_9 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S1x512 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1)

/-- The run's pieces for output 10 tile its block (4 stores of `S1x128`, checked by the kernel's evaluation: Lib/Ring.lean `Piece.tiledL`, linear in the pieces, through a loop's `@[irreducible]` trip theorem too), so they cover it. -/
theorem cover1_A_10 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1 S1x128.size (by sl_kernel_rfl) y

/-- What the run leaves in output 10's staging buffer: its pieces read back over junk. -/
def out1_A_10 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S1x512 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1)

/-! ## What the outputs hold after each point -/

/-- What the outputs' staging buffers hold after the body at point `t` (as a tuple, in window order): the run's contents at
    the point's memrefs and input blocks. -/
def outsAt1 (c : Dev nD) (t : Fin cfg1.N) : Vec F S192x512 .i8 × Vec F S1x512 .f32 × Vec F S1x512 .f32 × Vec F S1x512 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t).1
    | ⟨8, _⟩ => (outsAt1 V c t).2.1
    | ⟨9, _⟩ => (outsAt1 V c t).2.2.1
    | ⟨10, _⟩ => (outsAt1 V c t).2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t).1 := by dsimp only [dat1]
theorem after1_8 (c : Dev nD) (t : Fin cfg1.N) : (dat1 V c).after 8 t = (outsAt1 V c t).2.1 := by dsimp only [dat1]
theorem after1_9 (c : Dev nD) (t : Fin cfg1.N) : (dat1 V c).after 9 t = (outsAt1 V c t).2.2.1 := by dsimp only [dat1]
theorem after1_10 (c : Dev nD) (t : Fin cfg1.N) : (dat1 V c).after 10 t = (outsAt1 V c t).2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 1200000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  rw [show (dat1 V c).Φ t.castSucc = Pipeline.ΦA spec1 c from rfl, PhiA1_eq]
  unfold outsAt1
  unfold out1_A_7 out1_A_8 out1_A_9 out1_A_10; (try dsimp only)
  iintro ⟨⟨⟨HR0, HR1, HR2, HR3, HR4, HR5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun1_A c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, ⟨%e7, H7⟩, ⟨%e8, H8⟩, ⟨%e9, H9⟩, ⟨%e10, H10⟩, ⟨%fT0, HS0⟩⟩
  isplitl [HR0 HR1 HR2 HR3 HR4 HR5 HS0 Hg]
  · isplitl [HR0 HR1 HR2 HR3 HR4 HR5 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover1_A_10 c _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Run.Main.lean ====
/-
  THE RUN of @main: host stretch, count region, host stretch, update region, host stretch. The buffer contents at each
  boundary are a fold from the launch memory (`W0` … `W5`); every execution ends with every unscoped buffer at `W5`.
-/
module

public import proofs.«01_k».proof.Proof.Run.CountRegion
public import proofs.«01_k».proof.Proof.Run.UpdateRegion

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered . -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered . -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates,
    nothing faulting, and every final state has every unscoped buffer at the last boundary's contents `W5` and every
    semaphore counter of the machine at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- THE FRAME: every argument array ends as launched and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun s h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_all m ρ)

end Cert.Kernel.Gen

end
-- ==== Proof.RunIdeal.CountRegion.lean ====
/-
  REGION 0 of @main, the count matrix: what its kernel body leaves in each buffer at each grid point, from the contents
  the region is entered with. The body counts, for sixteen bags a point, how often each embedding row is looked up, and
  at the first point only splits the gradients into three pieces; so the split gradients' buffer is left alone at
  every later point and written back at the last.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S384x320 := Rect.unit (s := S384x320) ![0, 0] S384x320.size inb_S384x320_S384x320_0_0
abbrev r0_1 : Rect S384x960 := Rect.unit (s := S384x960) ![0, 0] S384x960.size inb_S384x960_S384x960_0_0
abbrev r0_2 : Rect S16x256 := Rect.unit (s := S16x256) ![0, 0] S1x256.size inb_S16x256_S1x256_0_0
abbrev r0_3 : Rect S16x256 := Rect.unit (s := S16x256) ![1, 0] S1x256.size inb_S16x256_S1x256_1_0
abbrev r0_4 : Rect S160x16x128 := Rect.unit (s := S160x16x128) ![0, 0, 0] S160x2x128.size inb_S160x16x128_S160x2x128_0_0_0
abbrev r0_5 : Rect S16x256 := Rect.unit (s := S16x256) ![2, 0] S1x256.size inb_S16x256_S1x256_2_0
abbrev r0_6 : Rect S16x256 := Rect.unit (s := S16x256) ![3, 0] S1x256.size inb_S16x256_S1x256_3_0
abbrev r0_7 : Rect S160x16x128 := Rect.unit (s := S160x16x128) ![0, 2, 0] S160x2x128.size inb_S160x16x128_S160x2x128_0_2_0
abbrev r0_8 : Rect S16x256 := Rect.unit (s := S16x256) ![4, 0] S1x256.size inb_S16x256_S1x256_4_0
abbrev r0_9 : Rect S16x256 := Rect.unit (s := S16x256) ![5, 0] S1x256.size inb_S16x256_S1x256_5_0
abbrev r0_10 : Rect S160x16x128 := Rect.unit (s := S160x16x128) ![0, 4, 0] S160x2x128.size inb_S160x16x128_S160x2x128_0_4_0
abbrev r0_11 : Rect S16x256 := Rect.unit (s := S16x256) ![6, 0] S1x256.size inb_S16x256_S1x256_6_0
abbrev r0_12 : Rect S16x256 := Rect.unit (s := S16x256) ![7, 0] S1x256.size inb_S16x256_S1x256_7_0
abbrev r0_13 : Rect S160x16x128 := Rect.unit (s := S160x16x128) ![0, 6, 0] S160x2x128.size inb_S160x16x128_S160x2x128_0_6_0
abbrev r0_14 : Rect S16x256 := Rect.unit (s := S16x256) ![8, 0] S1x256.size inb_S16x256_S1x256_8_0
abbrev r0_15 : Rect S16x256 := Rect.unit (s := S16x256) ![9, 0] S1x256.size inb_S16x256_S1x256_9_0
abbrev r0_16 : Rect S160x16x128 := Rect.unit (s := S160x16x128) ![0, 8, 0] S160x2x128.size inb_S160x16x128_S160x2x128_0_8_0
abbrev r0_17 : Rect S16x256 := Rect.unit (s := S16x256) ![10, 0] S1x256.size inb_S16x256_S1x256_10_0
abbrev r0_18 : Rect S16x256 := Rect.unit (s := S16x256) ![11, 0] S1x256.size inb_S16x256_S1x256_11_0
abbrev r0_19 : Rect S160x16x128 := Rect.unit (s := S160x16x128) ![0, 10, 0] S160x2x128.size inb_S160x16x128_S160x2x128_0_10_0
abbrev r0_20 : Rect S16x256 := Rect.unit (s := S16x256) ![12, 0] S1x256.size inb_S16x256_S1x256_12_0
abbrev r0_21 : Rect S16x256 := Rect.unit (s := S16x256) ![13, 0] S1x256.size inb_S16x256_S1x256_13_0
abbrev r0_22 : Rect S160x16x128 := Rect.unit (s := S160x16x128) ![0, 12, 0] S160x2x128.size inb_S160x16x128_S160x2x128_0_12_0
abbrev r0_23 : Rect S16x256 := Rect.unit (s := S16x256) ![14, 0] S1x256.size inb_S16x256_S1x256_14_0
abbrev r0_24 : Rect S16x256 := Rect.unit (s := S16x256) ![15, 0] S1x256.size inb_S16x256_S1x256_15_0
abbrev r0_25 : Rect S160x16x128 := Rect.unit (s := S160x16x128) ![0, 14, 0] S160x2x128.size inb_S160x16x128_S160x2x128_0_14_0
/-! ## What the body leaves in each output window's buffer -/

/-- The high halves of the row numbers, one per row of the counts, -/
abbrev hiIota : IVec S160x256 32 := iota .tc S160x256 32 [0] iota_S160x256_d0_w32
/-- and the low halves. -/
abbrev loIota : IVec S128x256 32 := iota .tc S128x256 32 [0] iota_S128x256_d0_w32

/-- What the body stores for two bags, from their two rows of slots: the counts of the first bag and of the
    second, side by side. (The printed body writes the same chain of operations out eight times, cut into parts at
    different places; every copy unfolds to this one.) -/
def pairCounts (row row' : Vec F S1x256 .i32) : FVec F S160x2x128 .bf16 :=
  k0_pay24 (F := F) hiIota loIota (k0_pay23 hiIota loIota row) row'

theorem pair_0 (row row' : Vec F S1x256 .i32) : k0_pay8 (k0_pay3 row) (k0_pay4 row') (k0_pay5 row') k0_pay6 k0_pay7 = pairCounts row row' := rfl
theorem pair_1 (row row' : Vec F S1x256 .i32) : k0_pay12 (k0_pay9 hiIota loIota row) (k0_pay10 hiIota row') (k0_pay11 loIota row') = pairCounts row row' := rfl
theorem pair_2 (row row' : Vec F S1x256 .i32) : k0_pay15 loIota (k0_pay13 hiIota loIota row) row' (k0_pay14 hiIota row') 127#32 = pairCounts row row' := rfl
theorem pair_3 (row row' : Vec F S1x256 .i32) : k0_pay19 loIota (k0_pay16 hiIota loIota row) row' (k0_pay17 hiIota row') (Scalar.ofBits .f32 0x00000000#32) k0_pay18 = pairCounts row row' := rfl
theorem pair_4 (row row' : Vec F S1x256 .i32) : k0_pay22 hiIota loIota (k0_pay20 hiIota loIota row) row' (k0_pay21 row') = pairCounts row row' := rfl
theorem pair_5 (row row' : Vec F S1x256 .i32) : k0_pay24 hiIota loIota (k0_pay23 hiIota loIota row) row' = pairCounts row row' := rfl
theorem pair_6 (row row' : Vec F S1x256 .i32) : k0_pay26 hiIota loIota (k0_pay25 hiIota loIota row) row' = pairCounts row row' := rfl
theorem pair_7 (row row' : Vec F S1x256 .i32) : k0_pay1 hiIota loIota (k0_pay27 hiIota row) (k0_pay28 loIota row) k0_pay29 k0_pay30 row' = pairCounts row row' := rfl

/-- The counts' buffer after the body, from the slots' block: its 8 stores, two bags each, last first. -/
def out0_2 (x0 : Vec F S16x256 .i32) : Vec F S160x16x128 .bf16 :=
  View.canon [⟨r0_25, k0_pay1 hiIota loIota (k0_pay27 hiIota (View.ld x0 r0_23)) (k0_pay28 loIota (View.ld x0 r0_23)) k0_pay29 k0_pay30 (View.ld x0 r0_24)⟩,
    ⟨r0_22, k0_pay26 hiIota loIota (k0_pay25 hiIota loIota (View.ld x0 r0_20)) (View.ld x0 r0_21)⟩,
    ⟨r0_19, k0_pay24 hiIota loIota (k0_pay23 hiIota loIota (View.ld x0 r0_17)) (View.ld x0 r0_18)⟩,
    ⟨r0_16, k0_pay22 hiIota loIota (k0_pay20 hiIota loIota (View.ld x0 r0_14)) (View.ld x0 r0_15) (k0_pay21 (View.ld x0 r0_15))⟩,
    ⟨r0_13, k0_pay19 loIota (k0_pay16 hiIota loIota (View.ld x0 r0_11)) (View.ld x0 r0_12) (k0_pay17 hiIota (View.ld x0 r0_12)) (Scalar.ofBits .f32 0x00000000#32) k0_pay18⟩,
    ⟨r0_10, k0_pay15 loIota (k0_pay13 hiIota loIota (View.ld x0 r0_8)) (View.ld x0 r0_9) (k0_pay14 hiIota (View.ld x0 r0_9)) 127#32⟩,
    ⟨r0_7, k0_pay12 (k0_pay9 hiIota loIota (View.ld x0 r0_5)) (k0_pay10 hiIota (View.ld x0 r0_6)) (k0_pay11 loIota (View.ld x0 r0_6))⟩,
    ⟨r0_4, k0_pay8 (k0_pay3 (View.ld x0 r0_2)) (k0_pay4 (View.ld x0 r0_3)) (k0_pay5 (View.ld x0 r0_3)) k0_pay6 k0_pay7⟩]

/-- The same, every pair by the one chain of operations. -/
theorem out0_2_eq (x0 : Vec F S16x256 .i32) : out0_2 x0 =
    View.canon [⟨r0_25, pairCounts (View.ld x0 r0_23) (View.ld x0 r0_24)⟩,
    ⟨r0_22, pairCounts (View.ld x0 r0_20) (View.ld x0 r0_21)⟩,
    ⟨r0_19, pairCounts (View.ld x0 r0_17) (View.ld x0 r0_18)⟩,
    ⟨r0_16, pairCounts (View.ld x0 r0_14) (View.ld x0 r0_15)⟩,
    ⟨r0_13, pairCounts (View.ld x0 r0_11) (View.ld x0 r0_12)⟩,
    ⟨r0_10, pairCounts (View.ld x0 r0_8) (View.ld x0 r0_9)⟩,
    ⟨r0_7, pairCounts (View.ld x0 r0_5) (View.ld x0 r0_6)⟩,
    ⟨r0_4, pairCounts (View.ld x0 r0_2) (View.ld x0 r0_3)⟩] := by
  unfold out0_2
  rw [pair_0, pair_1, pair_2, pair_3, pair_4, pair_5, pair_6, pair_7]

/-- Its stores tile the buffer (checked by evaluation), so they cover it. -/
theorem cover0_2 (p0 : Vec F S160x2x128 .bf16) (p1 : Vec F S160x2x128 .bf16) (p2 : Vec F S160x2x128 .bf16) (p3 : Vec F S160x2x128 .bf16) (p4 : Vec F S160x2x128 .bf16) (p5 : Vec F S160x2x128 .bf16) (p6 : Vec F S160x2x128 .bf16) (p7 : Vec F S160x2x128 .bf16) (y : S160x16x128.Idx) :
    ∃ pc ∈ ([⟨r0_25, p0⟩, ⟨r0_22, p1⟩, ⟨r0_19, p2⟩, ⟨r0_16, p3⟩, ⟨r0_13, p4⟩, ⟨r0_10, p5⟩, ⟨r0_7, p6⟩, ⟨r0_4, p7⟩] : List (View.Piece (Elt F) S160x16x128 .bf16)), y ∈ pc.1.set :=
  View.cover_of_tiled [⟨r0_25, p0⟩, ⟨r0_22, p1⟩, ⟨r0_19, p2⟩, ⟨r0_16, p3⟩, ⟨r0_13, p4⟩, ⟨r0_10, p5⟩, ⟨r0_7, p6⟩, ⟨r0_4, p7⟩] S160x2x128.size (by rfl) y

/-- The split gradients' buffer after the body at the first point, from the gradients' block. -/
def out0_3 (x1 : Vec F S384x320 .f32) : Vec F S384x960 .bf16 :=
  View.canon [⟨r0_1, k0_pay2 (View.ld x1 r0_0)⟩]

/-- Its stores tile the buffer (checked by evaluation), so they cover it. -/
theorem cover0_3 (p0 : Vec F S384x960 .bf16) (y : S384x960.Idx) :
    ∃ pc ∈ ([⟨r0_1, p0⟩] : List (View.Piece (Elt F) S384x960 .bf16)), y ∈ pc.1.set :=
  View.cover_of_tiled [⟨r0_1, p0⟩] S384x960.size (by rfl) y

/-! ## The body's branch, and the points at which the split gradients are left alone -/

/-- The condition of the body's one branch, from the grid coordinates. -/
abbrev cond0_0 (i : grid0.Coords) : Prop := k0_cond1 i = 1#1
/-- It holds at the first point only. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The split gradients are stored where the branch is taken, and left alone elsewhere. -/
theorem liveAt0_3 (t : Fin cfg0.N) (h : cond0_0 (grid0.coords t)) : cfg0.idle 3 (grid0.coords t) = false := by
  show (!(k0_cond1 (grid0.coords t) == 1#1)) = false
  rw [show k0_cond1 (grid0.coords t) = 1#1 from h]; rfl
theorem idleAt0_3 (t : Fin cfg0.N) (h : ¬cond0_0 (grid0.coords t)) : cfg0.idle 3 (grid0.coords t) = true := by
  show (!(k0_cond1 (grid0.coords t) == 1#1)) = true
  rw [Bool.not_eq_true', beq_eq_false_iff_ne]; exact h

/-- Whether the split gradients' buffer holds nothing the body stored when the body runs at a position: at the
    first point, and after the last. -/
def freshTab0_3 : ℕ → Bool
  | 0 => true
  | n + 1 => n == 19
theorem freshTab0_3_step : ∀ t : Fin cfg0.N,
    freshTab0_3 (t.val + 1) = ((cfg0.win 3).flush t || (cfg0.idle 3 (cfg0.grid.coords t) && freshTab0_3 t.val)) := by
  intro t
  have ht : t.val < 20 := Nat.lt_of_lt_of_eq t.isLt N_0
  have hfl := flush0_3 t
  by_cases hc : t.val % 20 = 0
  · rw [show cfg0.idle 3 (cfg0.grid.coords t) = false from liveAt0_3 t ((hcond0_0 t).mpr hc), Bool.false_and, Bool.or_false]
    rw [Bool.eq_iff_iff, hfl]
    show (t.val == 19) = true ↔ _
    rw [beq_iff_eq]; omega
  · obtain ⟨n, hn⟩ : ∃ n, t.val = n + 1 := ⟨t.val - 1, by omega⟩
    rw [show cfg0.idle 3 (cfg0.grid.coords t) = true from idleAt0_3 t (fun h => hc ((hcond0_0 t).mp h)), Bool.true_and]
    rw [show freshTab0_3 t.val = false from by
      rw [hn]; show (n == 19) = false; rw [beq_eq_false_iff_ne]; omega, Bool.or_false]
    rw [Bool.eq_iff_iff, hfl]
    show (t.val == 19) = true ↔ _
    rw [beq_iff_eq]; omega
theorem fresh0_3_eq (t : Fin cfg0.N) : cfg0.fresh 3 t.val = freshTab0_3 t.val :=
  Pipeline.Cfg.fresh_tab cfg0 3 freshTab0_3 rfl freshTab0_3_step t.val (Nat.le_of_lt t.isLt)

/-! ## The body's triples -/

set_option maxHeartbeats 1000000 in
/-- THE BODY AT THE FIRST POINT: on whole staging memrefs, the inputs' at read contents and the outputs' at anything,
    the body runs to the continuation holding the counts of the slots' block and the split of the gradients. -/
theorem sound_kernel0_A (c : Dev nD) (E : Set ℕ) (i : grid0.Coords) (arg1 : Memref sig .tc .vmem S16x256 .i32) (harg1 : arg1.IsWhole) (arg2 : Memref sig .tc .vmem S384x320 .f32) (harg2 : arg2.IsWhole) (arg3 : Memref sig .tc .vmem S160x16x128 .bf16) (harg3 : arg3.IsWhole) (arg4 : Memref sig .tc .vmem S384x960 .bf16) (harg4 : arg4.IsWhole) (hc0 : cond0_0 i)
    (x0 : Vec F S16x256 .i32) (x1 : Vec F S384x320 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1)) -∗ K ⟨⟩))
      ⊢ wp frame (wpE (defs₀ (F := F)) Variants.none c none) E (cc0_count_matrix i arg1 harg1 arg2 harg2 arg3 harg3 arg4 harg4) K := by
  simp only [cc0_count_matrix_eq_skeleton]; unfold cc0_count_matrix_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  iexists _; isplitr
  swap; · iexact H3
  ipureintro
  refine (View.read_writes_eq_canon _ _ _ (cover0_3 _)).trans ?_
  rfl

set_option maxHeartbeats 1000000 in
/-- THE BODY AT ANY LATER POINT: the same, and the split gradients' buffer as it was found. -/
theorem sound_kernel0_B (c : Dev nD) (E : Set ℕ) (i : grid0.Coords) (arg1 : Memref sig .tc .vmem S16x256 .i32) (harg1 : arg1.IsWhole) (arg2 : Memref sig .tc .vmem S384x320 .f32) (harg2 : arg2.IsWhole) (arg3 : Memref sig .tc .vmem S160x16x128 .bf16) (harg3 : arg3.IsWhole) (arg4 : Memref sig .tc .vmem S384x960 .bf16) (harg4 : arg4.IsWhole) (hc0 : ¬cond0_0 i)
    (x0 : Vec F S16x256 .i32) (x1 : Vec F S384x320 .f32) (x3 : Vec F S384x960 .bf16) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3
        ∗ (iprop(owns (c : Thread nD τ) arg1 fullShare x0 ∗ owns (c : Thread nD τ) arg2 fullShare x1 ∗ owns (c : Thread nD τ) arg3 fullShare (out0_2 x0) ∗ owns (c : Thread nD τ) arg4 fullShare x3) -∗ K ⟨⟩))
      ⊢ wp frame (wpE (defs₀ (F := F)) Variants.none c none) E (cc0_count_matrix i arg1 harg1 arg2 harg2 arg3 harg3 arg4 harg4) K := by
  simp only [cc0_count_matrix_eq_skeleton]; unfold cc0_count_matrix_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, ⟨%f3, %hf3, H3⟩, Hk⟩
  subst hf0 hf1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  iexists f3; isplitr; · ipureintro; exact hf3
  iexact H3

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]
/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- The gradients' block is the same at every point. -/
theorem iblk0_1_const (c : Dev nD) (t t' : Fin cfg0.N) : iblk0 V c 1 t = iblk0 V c 1 t' := rfl

/-- What a later point finds in the split gradients' buffer: what the point before left there. -/
theorem before0_3 (c : Dev nD) (t : Fin cfg0.N) (h : ¬ t.val % 20 = 0) (d) : (dat0 V c).before 3 t d = out0_3 (iblk0 V c 1 t) := by
  have ht : t.val < 20 := Nat.lt_of_lt_of_eq t.isLt N_0
  have key := Dat.before_out_traj (dat0 V c) 3 rfl (fun _ _ => rfl)
    (fun t _ _ _ => by rw [after0_3, after0_3]; exact congrArg _ (iblk0_1_const V c _ _)) t.val t rfl d
  rw [fresh0_3_eq t] at key
  obtain ⟨n, hn⟩ : ∃ n, t.val = n + 1 := ⟨t.val - 1, by omega⟩
  rw [show freshTab0_3 t.val = false from by
      rw [hn]; show (n == 19) = false; rw [beq_eq_false_iff_ne]; omega, if_neg Bool.false_ne_true, after0_3] at key
  exact key.trans (congrArg _ (iblk0_1_const V c _ _))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- A later point hands the split gradients' buffer back as it must: found there, or (at the last point, which writes
    it back) what the proof data say. -/
theorem leaves0_3_later (c : Dev nD) (t : Fin cfg0.N) (h : ¬ t.val % 20 = 0) :
    (owns (c : Thread nD τ) (st0_3 t) fullShare (out0_3 (iblk0 V c 1 t)) : sProp 𝕄) ⊢ (dat0 V c).leavesExact 3 t := by
  have hidle : cfg0.idle 3 (cfg0.grid.coords t) = true := idleAt0_3 t (fun h' => h ((hcond0_0 t).mp h'))
  cases hf : (cfg0.win 3).flush t with
  | false =>
    rw [Dat.leavesExact_idle (dat0 V c) 3 t hidle hf]
    iintro H
    iexists (fun _ => default)
    rw [before0_3 V c t h]
    iexact H
  | true =>
    rw [show (dat0 V c).leavesExact 3 t = owns (c : Thread nD τ) (st0_3 t) fullShare ((dat0 V c).after 3 t) from by
      unfold Dat.leavesExact; rw [hidle, hf], after0_3]

set_option maxHeartbeats 800000 in
/-- The body at any point: the first by `sound_kernel0_A`, a later one by `sound_kernel0_B`; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  by_cases h0 : t.val % 20 = 0
  · rw [show (dat0 V c).leavesExact 3 t = owns (c : Thread nD τ) (st0_3 t) fullShare ((dat0 V c).after 3 t) from by
      unfold Dat.leavesExact; rw [liveAt0_3 t ((hcond0_0 t).mpr h0)], after0_3]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0_0 t).mpr h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0_0 t).mp h)) (iblk0 V c 0 t) (iblk0 V c 1 t) (out0_3 (iblk0 V c 1 t)) _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves0_3_later V c t h0)
    iexact H3

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.RunIdeal.UpdateRegion.lean ====
/-
  REGION 1 of @main, the row update: what its kernel body leaves in each output's buffer at each grid point, from the
  contents the region is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S192x512 .i8 := (Memref.whole cc1_stg7_0 : Memref sig .tc .vmem S192x512 .i8).view
/-- One staging buffer of output window 8, through which its contents are stated (`View.read_writes_of_cover`: the
    choice does not matter). -/
abbrev VO1_8 : View sig .tc .vmem S1x512 .f32 := (Memref.whole cc1_stg8_0 : Memref sig .tc .vmem S1x512 .f32).view
/-- One staging buffer of output window 9, through which its contents are stated (`View.read_writes_of_cover`: the
    choice does not matter). -/
abbrev VO1_9 : View sig .tc .vmem S1x512 .f32 := (Memref.whole cc1_stg9_0 : Memref sig .tc .vmem S1x512 .f32).view
/-- One staging buffer of output window 10, through which its contents are stated (`View.read_writes_of_cover`: the
    choice does not matter). -/
abbrev VO1_10 : View sig .tc .vmem S1x512 .f32 := (Memref.whole cc1_stg10_0 : Memref sig .tc .vmem S1x512 .f32).view
/-- Each window's current staging memref at point `t`, spelled as the pipeline passes it (`bodyAt1`), and its wholeness. -/
abbrev ms1_0 (t : Fin cfg1.N) : Memref sig .tc .vmem S384x960 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x320x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x48x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x384 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S192x512 .i8 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x512 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S384x128 .i32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) :
    Σ' (L7 : List (View.Piece (Elt F) S192x512 .i8)), Σ' (L8 : List (View.Piece (Elt F) S1x512 .f32)), Σ' (L9 : List (View.Piece (Elt F) S1x512 .f32)), Σ' (L10 : List (View.Piece (Elt F) S1x512 .f32)), { LT0 : List (View.Piece (Elt F) S384x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0)) -∗ K ⟨⟩))
          ⊢ wp frame (wpE (defs₀ (F := F)) Variants.none c none) E (cc1_adagrad_update i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_adagrad_update_eq_skeleton]; unfold cc1_adagrad_update_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

/-- The run's pieces for output 7 tile its block (4 stores of `S192x128`, checked by the kernel's evaluation: Lib/Ring.lean `Piece.tiledL`, linear in the pieces, through a loop's `@[irreducible]` trip theorem too), so they cover it. -/
theorem cover1_A_7 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S192x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1 S192x128.size (by sl_kernel_rfl) y

/-- What the run leaves in output 7's staging buffer: its pieces read back over junk. -/
def out1_A_7 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S192x512 .i8 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1)

/-- The run's pieces for output 8 tile its block (4 stores of `S1x128`, checked by the kernel's evaluation: Lib/Ring.lean `Piece.tiledL`, linear in the pieces, through a loop's `@[irreducible]` trip theorem too), so they cover it. -/
theorem cover1_A_8 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1 S1x128.size (by sl_kernel_rfl) y

/-- What the run leaves in output 8's staging buffer: its pieces read back over junk. -/
def out1_A_8 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S1x512 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1)

/-- The run's pieces for output 9 tile its block (4 stores of `S1x128`, checked by the kernel's evaluation: Lib/Ring.lean `Piece.tiledL`, linear in the pieces, through a loop's `@[irreducible]` trip theorem too), so they cover it. -/
theorem cover1_A_9 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 S1x128.size (by sl_kernel_rfl) y

/-- What the run leaves in output 9's staging buffer: its pieces read back over junk. -/
def out1_A_9 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S1x512 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1)

/-- The run's pieces for output 10 tile its block (4 stores of `S1x128`, checked by the kernel's evaluation: Lib/Ring.lean `Piece.tiledL`, linear in the pieces, through a loop's `@[irreducible]` trip theorem too), so they cover it. -/
theorem cover1_A_10 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) (y : S1x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1 S1x128.size (by sl_kernel_rfl) y

/-- What the run leaves in output 10's staging buffer: its pieces read back over junk. -/
def out1_A_10 (c : Dev nD) (i : grid1.Coords) (arg1 : Memref sig .tc .vmem S384x960 .bf16) (harg1 : arg1.IsWhole) (arg2 : Memref sig .tc .vmem S4x320x128 .bf16) (harg2 : arg2.IsWhole) (arg3 : Memref sig .tc .vmem S4x48x128 .i32) (harg3 : arg3.IsWhole) (arg4 : Memref sig .tc .vmem S512x384 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S192x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x128 .i32) (harg12 : arg12.IsWhole)
    (x0 : Vec F S384x960 .bf16) (x1 : Vec F S4x320x128 .bf16) (x2 : Vec F S4x48x128 .i32) (x3 : Vec F S512x384 .i32) (x4 : Vec F S1x512 .f32) (x5 : Vec F S1x512 .f32) (x6 : Vec F S1x512 .f32) : Vec F S1x512 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1)

/-! ## What the outputs hold after each point -/

/-- What the outputs' staging buffers hold after the body at point `t` (as a tuple, in window order): the run's contents at
    the point's memrefs and input blocks. -/
def outsAt1 (c : Dev nD) (t : Fin cfg1.N) : Vec F S192x512 .i8 × Vec F S1x512 .f32 × Vec F S1x512 .f32 × Vec F S1x512 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V c 0 t) (iblk1 V c 1 t) (iblk1 V c 2 t) (iblk1 V c 3 t) (iblk1 V c 4 t) (iblk1 V c 5 t) (iblk1 V c 6 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t).1
    | ⟨8, _⟩ => (outsAt1 V c t).2.1
    | ⟨9, _⟩ => (outsAt1 V c t).2.2.1
    | ⟨10, _⟩ => (outsAt1 V c t).2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t).1 := by dsimp only [dat1]
theorem after1_8 (c : Dev nD) (t : Fin cfg1.N) : (dat1 V c).after 8 t = (outsAt1 V c t).2.1 := by dsimp only [dat1]
theorem after1_9 (c : Dev nD) (t : Fin cfg1.N) : (dat1 V c).after 9 t = (outsAt1 V c t).2.2.1 := by dsimp only [dat1]
theorem after1_10 (c : Dev nD) (t : Fin cfg1.N) : (dat1 V c).after 10 t = (outsAt1 V c t).2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 1200000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  rw [show (dat1 V c).Φ t.castSucc = Pipeline.ΦA spec1 c from rfl, PhiA1_eq]
  unfold outsAt1
  unfold out1_A_7 out1_A_8 out1_A_9 out1_A_10; (try dsimp only)
  iintro ⟨⟨⟨HR0, HR1, HR2, HR3, HR4, HR5, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun1_A c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, ⟨%e7, H7⟩, ⟨%e8, H8⟩, ⟨%e9, H9⟩, ⟨%e10, H10⟩, ⟨%fT0, HS0⟩⟩
  isplitl [HR0 HR1 HR2 HR3 HR4 HR5 HS0 Hg]
  · isplitl [HR0 HR1 HR2 HR3 HR4 HR5 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover1_A_10 c _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.RunIdeal.Main.lean ====
/-
  THE RUN of @main: host stretch, count region, host stretch, update region, host stretch. The buffer contents at each
  boundary are a fold from the launch memory (`W0` … `W5`); every execution ends with every unscoped buffer at `W5`.
-/
module

public import proofs.«01_k».proof.Proof.RunIdeal.CountRegion
public import proofs.«01_k».proof.Proof.RunIdeal.UpdateRegion

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered . -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered . -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates,
    nothing faulting, and every final state has every unscoped buffer at the last boundary's contents `W5` and every
    semaphore counter of the machine at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- THE FRAME: every argument array ends as launched and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun s h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_all m ρ)

end Cert.KernelIdeal.Gen

end
-- ==== Proof.Value.Row.lean ====
/-
  The mathematics of the update of one row, apart from any program: sums of gradients over the extended reals, the
  step of the optimizer, and the quantiser. The program adds up each gradient split in three pieces, its columns the
  even ones first; the reference adds up the gradients themselves, column by column. The lemmas here say that the
  two give one row.
-/
module

public import Idealize.ShloMosaic.Lib.Pipeline.ValueKit
public import Idealize.ShloMosaic.Lib.IdealHost

@[expose] public section

noncomputable section

open Idealize.ShloMosaic

namespace Cert.Row

/-! ## The constants -/

/-- The number of columns, 384, -/
abbrev cN : EReal := Ideal.ofBits .f32 1136656384#32
/-- the step length, -/
abbrev cLR : EReal := Ideal.ofBits .f32 1017370378#32
/-- the small constant under both quotients, -/
abbrev cEps : EReal := Ideal.ofBits .f32 841731191#32
/-- the greatest code, 15, -/
abbrev c15 : EReal := Ideal.ofBits .f32 1097859072#32
/-- sixteen, -/
abbrev c16 : EReal := Ideal.ofBits .f32 1098907648#32
/-- and the pattern of plus infinity -/
abbrev cTop : EReal := Ideal.ofBits .f32 2139095040#32
/-- and of minus infinity. -/
abbrev cBot : EReal := Ideal.ofBits .f32 4286578688#32
/-- Two to the minus 24. -/
abbrev cR : EReal := Ideal.ofBits .f32 864026624#32

theorem cN_eq : cN = ((384 : ℝ) : EReal) := by
  simp [cN, Ideal.ofBits, Ideal.ieee, -EReal.coe_mul]; norm_num
theorem c15_eq : c15 = ((15 : ℝ) : EReal) := by
  simp [c15, Ideal.ofBits, Ideal.ieee, -EReal.coe_mul]; norm_num
theorem c16_eq : c16 = ((16 : ℝ) : EReal) := by
  simp [c16, Ideal.ofBits, Ideal.ieee, -EReal.coe_mul]; norm_num

/-! ## Sums over the extended reals -/

/-- The extended real is one of the two infinities. -/
def Inf (x : EReal) : Prop := x = ⊤ ∨ x = ⊥

theorem inf_add {x : EReal} (h : Inf x) (y : EReal) : Inf (x + y) := by
  rcases h with rfl | rfl
  · by_cases hy : y = ⊥
    · subst hy; right; simp
    · left; exact EReal.top_add_of_ne_bot hy
  · right; simp

theorem add_inf {y : EReal} (h : Inf y) (x : EReal) : Inf (x + y) := add_comm y x ▸ inf_add h x

/-- A sum with an infinite term is infinite. -/
theorem inf_sum {ι : Type} [Fintype ι] [DecidableEq ι] (f : ι → EReal) (i : ι) (h : Inf (f i)) : Inf (∑ i, f i) := by
  rw [← Finset.add_sum_erase Finset.univ f (Finset.mem_univ i)]
  exact inf_add h _

/-- A sum with the term minus infinity is minus infinity. -/
theorem bot_sum {ι : Type} [Fintype ι] [DecidableEq ι] (f : ι → EReal) (i : ι) (h : f i = ⊥) : ∑ i, f i = ⊥ := by
  rw [← Finset.add_sum_erase Finset.univ f (Finset.mem_univ i), h, EReal.bot_add]

/-- A sum with the term plus infinity and no negative term is plus infinity. -/
theorem top_sum {ι : Type} [Fintype ι] [DecidableEq ι] (f : ι → EReal) (i : ι) (h : f i = ⊤) (h0 : ∀ j, 0 ≤ f j) : ∑ i, f i = ⊤ := by
  rw [← Finset.add_sum_erase Finset.univ f (Finset.mem_univ i), h]
  refine EReal.top_add_of_ne_bot fun e => ?_
  have : (0 : EReal) ≤ ∑ j ∈ Finset.univ.erase i, f j := Finset.sum_nonneg fun j _ => h0 j
  rw [e] at this
  simp at this

theorem inf_sq {x : EReal} (h : Inf x) : x * x = ⊤ := by
  rcases h with rfl | rfl <;> rfl

theorem sq_nonneg' (x : EReal) : 0 ≤ x * x := by
  induction x with
  | bot => simp
  | top => simp
  | coe r => rw [← EReal.coe_mul]; exact_mod_cast mul_self_nonneg r

/-- How many of the places hold: a sum of ones and zeros. -/
def cnt {κ : Type} [Fintype κ] (p : κ → Prop) [DecidablePred p] : EReal := ∑ s, if p s then (1 : EReal) else 0

theorem cnt_eq {κ : Type} [Fintype κ] (p : κ → Prop) [DecidablePred p] : cnt p = (((Finset.univ.filter p).card : ℕ) : EReal) := by
  unfold cnt
  rw [Finset.sum_boole]

/-- A term added once for every place that holds is the number of those places times the term. -/
theorem sum_ite_eq {κ : Type} [Fintype κ] (p : κ → Prop) [DecidablePred p] (x : EReal) :
    (∑ s, if p s then x else 0) = x * cnt p := by
  classical
  unfold cnt
  induction (Finset.univ : Finset κ) using Finset.induction_on with
  | empty => simp
  | insert a s ha ih =>
    rw [Finset.sum_insert ha, Finset.sum_insert ha, ih]
    have hs : (0 : EReal) ≤ ∑ s ∈ s, if p s then (1 : EReal) else 0 :=
      Finset.sum_nonneg fun j _ => by split <;> simp
    have h1 : (0 : EReal) ≤ if p a then (1 : EReal) else 0 := by split <;> simp
    rw [EReal.left_distrib_of_nonneg h1 hs]
    by_cases hp : p a
    · simp [hp]
    · simp [hp]

/-- The gradients added up as they are: each as often as its places hold. -/
def sumPlain {β κ : Type} [Fintype β] [Fintype κ] (p : β → κ → Prop) [∀ b, DecidablePred (p b)] (g : β → EReal) : EReal :=
  ∑ b, ∑ s, if p b s then g b else 0

/-- The gradients added up in three pieces: the gradient itself, what is left of it, and what is left of that. -/
def sumSplit {β κ : Type} [Fintype β] [Fintype κ] (p : β → κ → Prop) [∀ b, DecidablePred (p b)] (g : β → EReal) : EReal :=
  (∑ b, g b * cnt (p b)) + (∑ b, (g b - g b) * cnt (p b)) + ∑ b, ((g b - g b) - (g b - g b)) * cnt (p b)

/-- The two ways agree, or both sums are infinite. -/
theorem split_plain {β κ : Type} [Fintype β] [Fintype κ] [DecidableEq β] (p : β → κ → Prop) [∀ b, DecidablePred (p b)] (g : β → EReal) :
    sumSplit p g = sumPlain p g ∨ (Inf (sumSplit p g) ∧ Inf (sumPlain p g)) := by
  have hplain : sumPlain p g = ∑ b, g b * cnt (p b) := Finset.sum_congr rfl fun b _ => sum_ite_eq (p b) (g b)
  by_cases h : ∀ b, cnt (p b) = 0 ∨ ¬ Inf (g b)
  · left
    have hz : ∀ b, (g b - g b) * cnt (p b) = 0 := fun b => by
      rcases h b with h | h
      · rw [h, mul_zero]
      · rw [EReal.sub_self (fun e => h (.inl e)) (fun e => h (.inr e)), zero_mul]
    have hz' : ∀ b, ((g b - g b) - (g b - g b)) * cnt (p b) = 0 := fun b => by
      rcases h b with h | h
      · rw [h, mul_zero]
      · rw [EReal.sub_self (fun e => h (.inl e)) (fun e => h (.inr e)), sub_zero, zero_mul]
    rw [hplain]
    unfold sumSplit
    rw [Finset.sum_congr rfl fun b _ => hz b, Finset.sum_congr rfl fun b _ => hz' b]
    simp
  · right
    push Not at h
    obtain ⟨b, hc, hg⟩ := h
    have hpos : (0 : EReal) < cnt (p b) := by
      refine lt_of_le_of_ne ?_ (Ne.symm hc)
      exact Finset.sum_nonneg fun j _ => by split <;> simp
    constructor
    · have hm : (g b - g b) = ⊥ := by rcases hg with e | e <;> rw [e] <;> rfl
      have : (∑ b, (g b - g b) * cnt (p b)) = ⊥ := bot_sum _ b (by rw [hm, EReal.bot_mul_of_pos hpos])
      right
      unfold sumSplit
      rw [this, EReal.add_bot, EReal.bot_add]
    · rw [hplain]
      refine inf_sum _ b ?_
      rcases hg with e | e
      · left; rw [e, EReal.top_mul_of_pos hpos]
      · right; rw [e, EReal.bot_mul_of_pos hpos]

/-! ## The step -/

/-- The new accumulator of a row, from its summed gradients. -/
def state (G : Fin 384 → EReal) (m : EReal) : EReal := m + Ideal.div (∑ d, G d * G d) cN
/-- The row's multiplier. -/
def mult (G : Fin 384 → EReal) (m : EReal) : EReal := Ideal.div cLR (Ideal.sqrt (state G m) + cEps)
/-- The row's new values, from its codes, its scale and its bias. -/
def newVal (code : Fin 384 → EReal) (s b m : EReal) (G : Fin 384 → EReal) (d : Fin 384) : EReal :=
  (code d * s + b) - mult G m * G d

/-- Two rows of sums, at each column the same or both infinite. -/
def Agree (G G' : Fin 384 → EReal) : Prop := ∀ d, G d = G' d ∨ (Inf (G d) ∧ Inf (G' d))

theorem state_of_inf {G : Fin 384 → EReal} (d : Fin 384) (h : Inf (G d)) (m : EReal) : state G m = m + ⊤ := by
  unfold state
  rw [top_sum (fun d => G d * G d) d (inf_sq h) fun j => sq_nonneg' _, cN_eq]
  congr 1
  rw [Ideal.div, if_neg (by exact_mod_cast (by norm_num : (384 : ℝ) ≠ 0)), ← EReal.coe_inv, EReal.top_mul_coe_of_pos (by norm_num)]

theorem state_agree {G G' : Fin 384 → EReal} (h : Agree G G') (m : EReal) : state G m = state G' m := by
  by_cases hi : ∃ d, Inf (G d) ∧ Inf (G' d)
  · obtain ⟨d, h1, h2⟩ := hi
    rw [state_of_inf d h1, state_of_inf d h2]
  · have : G = G' := funext fun d => (h d).resolve_right fun e => hi ⟨d, e⟩
    rw [this]

/-- Past an infinite sum the multiplier is zero. -/
theorem mult_of_inf {G : Fin 384 → EReal} (d : Fin 384) (h : Inf (G d)) (m : EReal) (hE : cEps ≠ ⊥) : mult G m = 0 := by
  unfold mult
  rw [state_of_inf d h]
  have hs : Ideal.sqrt (m + ⊤) + cEps = ⊤ ∨ Ideal.sqrt (m + ⊤) + cEps = ⊥ := by
    by_cases hm : m = ⊥
    · right; rw [hm, EReal.bot_add, Ideal.sqrt_bot, EReal.bot_add]
    · left
      rw [add_comm m, EReal.top_add_of_ne_bot hm, Ideal.sqrt_top, EReal.top_add_of_ne_bot hE]
  rcases hs with e | e <;> rw [e, Ideal.div]
  · rw [if_neg (by simp), EReal.inv_top, mul_zero]
  · rw [if_neg (by simp), EReal.inv_bot, mul_zero]

theorem cEps_ne_bot : cEps ≠ ⊥ := by
  have : cEps = (((11258999 : ℝ) * 2 ^ (-50 : ℤ) : ℝ) : EReal) := by
    simp [cEps, Ideal.ofBits, Ideal.ieee, -EReal.coe_mul]
  rw [this]
  exact EReal.coe_ne_bot _

/-- Rows of sums that agree make one row of new values. -/
theorem newVal_agree {G G' : Fin 384 → EReal} (h : Agree G G') (code : Fin 384 → EReal) (s b m : EReal) :
    newVal code s b m G = newVal code s b m G' := by
  by_cases hi : ∃ d, Inf (G d) ∧ Inf (G' d)
  · obtain ⟨d, h1, h2⟩ := hi
    funext e
    unfold newVal
    rw [mult_of_inf d h1 m cEps_ne_bot, mult_of_inf d h2 m cEps_ne_bot, zero_mul, zero_mul]
  · have : G = G' := funext fun d => (h d).resolve_right fun e => hi ⟨d, e⟩
    rw [this]

/-! ## The quantiser -/

/-- The least new value of a row, -/
def low (W : Fin 384 → EReal) : EReal := Finset.univ.fold min cTop W
/-- the greatest, -/
def high (W : Fin 384 → EReal) : EReal := Finset.univ.fold max cBot W
/-- fifteen over the range, -/
def inv (W : Fin 384 → EReal) : EReal := Ideal.div c15 ((high W - low W) + cEps)
/-- a clipped, rounded-down value as a code, -/
def clip (x : EReal) : EReal := min c15 (max 0 (Ideal.liftRound Int.floor x))
/-- and the code of column `d`, its random number `r`. -/
def code (W : Fin 384 → EReal) (r : EReal) (d : Fin 384) : EReal := clip ((W d - low W) * inv W + r)

/-- A clipped value is a whole number from 0 to 15. -/
theorem clip_nat (x : EReal) : ∃ n : ℕ, n < 16 ∧ clip x = ((n : ℝ) : EReal) := by
  unfold clip
  rw [c15_eq]
  induction x with
  | bot => exact ⟨0, by decide, by simp⟩
  | top => exact ⟨15, by decide, by simp⟩
  | coe r =>
    have e : Ideal.liftRound Int.floor (r : EReal) = ((⌊r⌋ : ℝ) : EReal) := rfl
    rw [e]
    refine ⟨(min 15 (max 0 ⌊r⌋)).toNat, by omega, ?_⟩
    have hc : (((min 15 (max 0 ⌊r⌋)).toNat : ℕ) : ℝ) = min 15 (max 0 ((⌊r⌋ : ℤ) : ℝ)) := by
      have : (((min 15 (max 0 ⌊r⌋)).toNat : ℕ) : ℤ) = min 15 (max 0 ⌊r⌋) := Int.toNat_of_nonneg (by omega)
      rw [← Int.cast_natCast, this]
      push_cast
      rfl
    rw [hc, ← EReal.coe_zero, ← EReal.coe_strictMono.monotone.map_max, ← EReal.coe_strictMono.monotone.map_min]

theorem fptosi_nat (n : ℕ) (h : n < 256) : Ideal.fptosi 32 ((n : ℝ) : EReal) = BitVec.ofNat 32 n := by
  unfold Ideal.fptosi
  rw [Ideal.toIntClamped_coe, if_pos (by positivity)]
  rw [Int.floor_natCast, max_eq_right (by omega), min_eq_right (by norm_num; omega)]
  exact BitVec.ofInt_natCast _ _

/-- Sixteen times the odd column's code plus the even column's, converted as one number, is the two nibbles of
    the byte joined. -/
theorem pack (x y : EReal) :
    BitVec.setWidth 8 (Ideal.fptosi 32 (clip x + c16 * clip y))
      = BitVec.setWidth 8 (Ideal.fptosi 32 (clip x) ||| (Ideal.fptosi 32 (clip y)) <<< 4) := by
  obtain ⟨a, ha, ea⟩ := clip_nat x
  obtain ⟨b, hb, eb⟩ := clip_nat y
  rw [ea, eb, c16_eq]
  have e : ((a : ℝ) : EReal) + ((16 : ℝ) : EReal) * ((b : ℝ) : EReal) = (((a + 16 * b : ℕ) : ℝ) : EReal) := by
    rw [← EReal.coe_mul, ← EReal.coe_add]
    push_cast
    rfl
  rw [e, fptosi_nat _ (by omega), fptosi_nat _ (by omega), fptosi_nat _ (by omega)]
  revert ha hb
  have : ∀ a : Fin 16, ∀ b : Fin 16, BitVec.setWidth 8 (BitVec.ofNat 32 (a.val + 16 * b.val))
      = BitVec.setWidth 8 (BitVec.ofNat 32 a.val ||| (BitVec.ofNat 32 b.val) <<< 4) := by decide +kernel
  exact fun ha hb => this ⟨a, ha⟩ ⟨b, hb⟩

/-! ## The columns in the order even, then odd -/

/-- The even column of pair `p`, -/
abbrev evenCol (p : Fin 192) : Fin 384 := ⟨2 * p.val, by omega⟩
/-- and the odd one. -/
abbrev oddCol (p : Fin 192) : Fin 384 := ⟨1 + 2 * p.val, by omega⟩
/-- The column that stands at place `p` when the even ones come first. -/
def colOf (p : Fin 384) : Fin 384 := if h : p.val < 192 then evenCol ⟨p.val, h⟩ else oddCol ⟨p.val - 192, by omega⟩

theorem colOf_bijective : Function.Bijective colOf := by
  refine Finite.injective_iff_bijective.1 fun p q h => Fin.ext ?_
  have := congrArg Fin.val h
  unfold colOf evenCol oddCol at this
  split at this <;> split at this <;> simp only at this <;> omega

theorem sum_colOf (f : Fin 384 → EReal) : ∑ p, f (colOf p) = ∑ d, f d :=
  Fintype.sum_bijective colOf colOf_bijective _ _ fun _ => rfl

theorem forall_cols {P : Fin 384 → Prop} : (∀ d, P d) ↔ (∀ p, P (evenCol p)) ∧ ∀ p, P (oddCol p) := by
  constructor
  · exact fun h => ⟨fun p => h _, fun p => h _⟩
  · rintro ⟨he, ho⟩ d
    by_cases h : d.val % 2 = 0
    · have : d = evenCol ⟨d.val / 2, by omega⟩ := Fin.ext (by show d.val = 2 * (d.val / 2); omega)
      rw [this]; exact he _
    · have : d = oddCol ⟨d.val / 2, by omega⟩ := Fin.ext (by show d.val = 1 + 2 * (d.val / 2); omega)
      rw [this]; exact ho _

/-- The least value over the even and the odd columns apart is the least over all. -/
theorem low_halves (W : Fin 384 → EReal) :
    min (Finset.univ.fold min cTop fun p => W (evenCol p)) (Finset.univ.fold min cTop fun p => W (oddCol p)) = low W := by
  refine eq_of_forall_le_iff fun z => ?_
  unfold low
  rw [le_min_iff, Finset.le_fold_min, Finset.le_fold_min, Finset.le_fold_min]
  have := @forall_cols fun d => z ≤ W d
  simp only [Finset.mem_univ, forall_const]
  tauto

/-- The greatest value likewise. -/
theorem high_halves (W : Fin 384 → EReal) :
    max (Finset.univ.fold max cBot fun p => W (evenCol p)) (Finset.univ.fold max cBot fun p => W (oddCol p)) = high W := by
  refine eq_of_forall_ge_iff fun z => ?_
  unfold high
  rw [max_le_iff, Finset.fold_max_le, Finset.fold_max_le, Finset.fold_max_le]
  have := @forall_cols fun d => W d ≤ z
  simp only [Finset.mem_univ, forall_const]
  tauto

end Cert.Row
-- ==== Proof.Value.Nibble.lean ====
/-
  The four-bit codes in the words: word by word, four bytes of two codes each, the low half first. The program reads
  the bytes of masked words; the reference shifts the words and masks. Both read one number.
-/
module

public import Idealize.ShloMosaic.Lib.Pipeline.ValueKit
public import Idealize.ShloMosaic.Lib.BitcastPair

@[expose] public section

noncomputable section

open Idealize.ShloMosaic

namespace Cert.Row

/-- The half `h` (0 the low one) of byte `k` of a word, as a number. -/
def nibNat (w : BitVec 32) (k h : ℕ) : ℕ := w.toNat / 2 ^ (8 * k + 4 * h) % 16
/-- The same as an extended real. -/
def nib (w : BitVec 32) (k h : ℕ) : EReal := ((nibNat w k h : ℝ) : EReal)

/-- The codes of a row, from its 48 words: column `d` is half `d % 2` of byte `d / 2`. -/
def codeOf (w : Fin 48 → BitVec 32) (d : Fin 384) : EReal := nib (w ⟨d.val / 2 / 4, by omega⟩) (d.val / 2 % 4) (d.val % 2)

/-! ## The reference's reading -/

/-- A byte of a word as the reference takes it. -/
theorem byte_toNat (w : BitVec 32) (k : ℕ) (hk : k < 4) :
    (IntOp.andi (IntOp.shrsi .host w (BitVec.ofNat 32 (8 * k))) 255#32).toNat = w.toNat / 2 ^ (8 * k) % 256 := by
  have hs : IntOp.shrsi .host w (BitVec.ofNat 32 (8 * k)) = w.sshiftRight (8 * k) := by
    unfold IntOp.shrsi
    have : (BitVec.ofNat 32 (8 * k)).toNat = 8 * k := by rw [BitVec.toNat_ofNat]; omega
    rw [if_pos (by omega), BitVec.sshiftRight', this]
  have hm : (IntOp.andi (w.sshiftRight (8 * k)) 255#32).toNat = (w.sshiftRight (8 * k)).toNat % 256 := by
    show ((w.sshiftRight (8 * k)) &&& 255#32).toNat = _
    rw [BitVec.toNat_and]
    exact Nat.and_two_pow_sub_one_eq_mod _ 8
  rw [hs, hm]
  have h1 : (w.sshiftRight (8 * k)).toInt = w.toInt / 2 ^ (8 * k) := by
    rw [BitVec.toInt_sshiftRight, Int.shiftRight_eq_div_pow]
    push_cast
    rfl
  rw [BitVec.toInt_eq_toNat_cond, BitVec.toInt_eq_toNat_cond] at h1
  have hw := w.isLt
  have hw' := (w.sshiftRight (8 * k)).isLt
  generalize (w.sshiftRight (8 * k)).toNat = y at *
  generalize w.toNat = x at *
  interval_cases k <;> norm_num at h1 ⊢ <;> split_ifs at h1 <;> omega

theorem byte_lt (w : BitVec 32) (k : ℕ) (hk : k < 4) :
    (IntOp.andi (IntOp.shrsi .host w (BitVec.ofNat 32 (8 * k))) 255#32).toNat < 256 := by
  rw [byte_toNat w k hk]; omega

/-- The low half of a byte as the reference takes it, -/
theorem low_ref (b : BitVec 32) (n : ℕ) (hn : b.toNat = n % 256) : (IntOp.andi b 15#32).toInt = ((n % 16 : ℕ) : ℤ) := by
  have hm : (IntOp.andi b 15#32).toNat = b.toNat % 16 := by
    show (b &&& 15#32).toNat = _
    rw [BitVec.toNat_and]
    exact Nat.and_two_pow_sub_one_eq_mod _ 4
  rw [BitVec.toInt_eq_toNat_cond, hm, if_pos (by omega)]
  omega

/-- and the high half. -/
theorem high_ref (b : BitVec 32) (n : ℕ) (hn : b.toNat = n % 256) : (IntOp.shrsi .host b 4#32).toInt = ((n / 16 % 16 : ℕ) : ℤ) := by
  have hs : IntOp.shrsi .host b 4#32 = b.sshiftRight 4 := by
    unfold IntOp.shrsi
    rw [if_pos (by decide), BitVec.sshiftRight']
    rfl
  rw [hs, BitVec.toInt_sshiftRight, Int.shiftRight_eq_div_pow, BitVec.toInt_eq_toNat_cond, hn, if_pos (by omega)]
  push_cast
  omega

/-! ## The program's reading -/

/-- Words read byte by byte, at an index: byte `k` of word `j` is result row `4 j + k`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (j : Fin r) (k : ℕ) (hk : k < 4)
    (hp : p.val = 4 * j.val + k) :
    bitcast ⟨2, ![R, n]⟩ 8 x h (ValueIdx.ix2 p l) = (x (ValueIdx.ix2 j l)).extractLsb' (8 * k) 8 := by
  apply BitVec.eq_of_getLsbD_eq
  intro i hi
  rw [bitcast_getLsbD x h _ i hi (by decide), BitVec.getLsbD_extractLsb']
  have hrow : (⟨2, ![R, n]⟩ : Shape).row (ValueIdx.ix2 p l) = p.val := rfl
  have ep : ((⟨2, ![R, n]⟩ : Shape).row (ValueIdx.ix2 p l) * 8 + i) / 32 = j.val := by rw [hrow]; omega
  have eq : ((⟨2, ![R, n]⟩ : Shape).row (ValueIdx.ix2 p l) * 8 + i) % 32 = 8 * k + i := by rw [hrow]; omega
  rw [eq, decide_eq_true hi, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- A byte of a word masked to the low halves of its bytes, -/
theorem mask_byte (w : BitVec 32) (k : ℕ) (hk : k < 4) :
    ((w &&& 252645135#32).extractLsb' (8 * k) 8).toInt = ((w.toNat / 2 ^ (8 * k) % 16 : ℕ) : ℤ) := by
  have hb : (w &&& 252645135#32).extractLsb' (8 * k) 8 = BitVec.setWidth 8 ((w >>> (8 * k)) &&& 15#32) := by
    apply BitVec.eq_of_getLsbD_eq
    intro i hi
    interval_cases k <;> interval_cases i <;> simp [BitVec.getLsbD_extractLsb'] <;> rfl
  have hn : ((w >>> (8 * k)) &&& 15#32).toNat = w.toNat / 2 ^ (8 * k) % 16 := by
    rw [BitVec.toNat_and, BitVec.toNat_ushiftRight, Nat.shiftRight_eq_div_pow]
    exact Nat.and_two_pow_sub_one_eq_mod _ 4
  rw [hb, BitVec.toInt_eq_toNat_cond, BitVec.toNat_setWidth, hn]
  rw [if_pos (by omega)]
  omega

/-- and of the same word shifted down by one half. -/
theorem mask_byte_shift (w : BitVec 32) (k : ℕ) (hk : k < 4) :
    (((w >>> 4) &&& 252645135#32).extractLsb' (8 * k) 8).toInt = ((w.toNat / 2 ^ (8 * k + 4) % 16 : ℕ) : ℤ) := by
  rw [mask_byte _ k hk, BitVec.toNat_ushiftRight, Nat.shiftRight_eq_div_pow, Nat.div_div_eq_div_mul]
  rw [Nat.pow_add, Nat.mul_comm (2 ^ 4)]

/-! ## The random numbers -/

/-- A word shifted down by eight bits reads the same signed and unsigned. -/
theorem shift8_toInt (r : BitVec 32) : (r >>> 8).toInt = (((r >>> 8).toNat : ℕ) : ℤ) := by
  rw [BitVec.toInt_eq_toNat_cond, BitVec.toNat_ushiftRight, Nat.shiftRight_eq_div_pow, if_pos (by omega)]

theorem shrui_vector (r : BitVec 32) : IntOp.shrui .vector r 8#32 = r >>> 8 := by
  unfold IntOp.shrui; rw [if_pos (by decide)]; rfl
theorem shrui_host (r : BitVec 32) : IntOp.shrui .host r 8#32 = r >>> 8 := by
  unfold IntOp.shrui; rw [if_pos (by decide)]; rfl
theorem shrui_vector4 (r : BitVec 32) : IntOp.shrui .vector r 4#32 = r >>> 4 := by
  unfold IntOp.shrui; rw [if_pos (by decide)]; rfl
theorem shli_host4 (r : BitVec 32) : IntOp.shli .host r 4#32 = r <<< 4 := by
  unfold IntOp.shli; rw [if_pos (by decide)]; rfl

/-- The random number a word stands for: its upper 24 bits, a fraction of one. -/
def rnd (r : BitVec 32) : EReal := ((((r >>> 8).toNat : ℕ) : ℝ) : EReal) * Ideal.ofBits .f32 864026624#32

/-! ## The rows a slot names -/

/-- The upper and the lower part of a slot both match exactly if the slot is the row. -/
theorem slot_parts (s : BitVec 32) (hi lo : ℕ) (hhi : hi < 160) (hlo : lo < 128) :
    (s.sshiftRight 7 = BitVec.ofNat 32 hi ∧ s &&& 127#32 = BitVec.ofNat 32 lo) ↔ s.toInt = ((128 * hi + lo : ℕ) : ℤ) := by
  have h1 : (s.sshiftRight 7).toInt = s.toInt / 128 := by
    rw [BitVec.toInt_sshiftRight, Int.shiftRight_eq_div_pow]; rfl
  have h2 : (s &&& 127#32).toNat = s.toNat % 128 := by
    rw [BitVec.toNat_and]; exact Nat.and_two_pow_sub_one_eq_mod _ 7
  have e1 : s.sshiftRight 7 = BitVec.ofNat 32 hi ↔ s.toInt / 128 = (hi : ℤ) := by
    rw [← h1, ← BitVec.toInt_inj]
    have : (BitVec.ofNat 32 hi).toInt = (hi : ℤ) := by
      rw [BitVec.toInt_eq_toNat_cond, BitVec.toNat_ofNat, Nat.mod_eq_of_lt (by omega), if_pos (by omega)]
    rw [this]
  have e2 : s &&& 127#32 = BitVec.ofNat 32 lo ↔ s.toNat % 128 = lo := by
    rw [← h2, ← BitVec.toNat_inj, BitVec.toNat_ofNat, Nat.mod_eq_of_lt (by omega)]
  rw [e1, e2, BitVec.toInt_eq_toNat_cond]
  have := s.isLt
  split_ifs <;> push_cast <;> omega

end Cert.Row
-- ==== Proof.Value.Counts.lean ====
/-
  Region 0 at the ideal reading, one bag at a time: the product of the two one-hot matrices counts, for every row of
  the table, the slots that name it.
-/
module

public import proofs.«01_k».proof.Proof.RunIdeal.CountRegion
public import proofs.«01_k».proof.Proof.Value.Row
public import proofs.«01_k».proof.Proof.Value.Nibble
public import Idealize.ShloMosaic.Lib.Pipeline.ValueKit

@[expose] public section

set_option maxRecDepth 16384

noncomputable section

open Idealize.ShloMosaic Idealize.ShloMosaic.TcCoe Idealize.SL.Sem

namespace Cert.KernelIdeal.Gen

open Cert.KernelIdeal

/-- How often a bag's slots name row `n` of the table. -/
abbrev bagCount (row : Fin 256 → BitVec 32) (n : ℕ) : EReal := Row.cnt fun s => (row s).toInt = (n : ℤ)

/-- The two one-hot entries of a slot, joined: one exactly if the slot names the row. -/
theorem hot_slot (s : BitVec 32) (h : Fin 160) (l : Fin 128) :
    Scalar.select (IntOp.cmpi CmpIPredicate.eq (BitVec.ofNat 32 l.val) (IntOp.andi s 127#32))
      (Scalar.select (IntOp.cmpi CmpIPredicate.eq (BitVec.ofNat 32 h.val) (IntOp.shrsi ArithUnit.vector s 7#32)) (1 : EReal) 0) 0
      = if s.toInt = ((128 * h.val + l.val : ℕ) : ℤ) then 1 else 0 := by
  have hs : IntOp.shrsi ArithUnit.vector s 7#32 = s.sshiftRight 7 := by
    unfold IntOp.shrsi
    rw [if_pos (by decide), BitVec.sshiftRight']
    rfl
  have e1 : ∀ (a b : BitVec 32) (x y : EReal), Scalar.select (IntOp.cmpi CmpIPredicate.eq a b) x y = if b = a then x else y := by
    intro a b x y
    by_cases h : b = a
    · subst h; simp [Scalar.select, IntOp.cmpi]
    · have h' : (a == b) = false := by simpa using fun e : a = b => h e.symm
      simp [Scalar.select, IntOp.cmpi, h, h']
  rw [e1, e1, hs]
  have hp := Row.slot_parts s h.val l.val h.isLt l.isLt
  show (if s &&& 127#32 = _ then _ else _) = _
  by_cases hlo : s &&& 127#32 = BitVec.ofNat 32 l.val
  · rw [if_pos hlo]
    by_cases hhi : s.sshiftRight 7 = BitVec.ofNat 32 h.val
    · rw [if_pos hhi, if_pos (hp.1 ⟨hhi, hlo⟩)]
    · rw [if_neg hhi, if_neg fun e => hhi (hp.2 e).1]
  · rw [if_neg hlo, if_neg fun e => hlo (hp.2 e).2]

/-- The product at one place is the count. -/
theorem pay23_at (row : Vec Ideal S1x256 .i32) (h : Fin 160) (l : Fin 128) :
    k0_pay23 (F := Ideal) hiIota loIota row (ix2 h l) = bagCount (fun s => row (ix2 0 s)) (128 * h.val + l.val) := by
  pointwise [k0_pay23, hiIota, loIota]
  exact Finset.sum_congr rfl fun s _ => hot_slot _ h l

/-- Two bags side by side. -/
theorem pair_at (row row' : Vec Ideal S1x256 .i32) (h : Fin 160) (e : Fin 2) (l : Fin 128) :
    pairCounts (F := Ideal) row row' (ix3 h e l) = if e.val < 1 then bagCount (fun s => row (ix2 0 s)) (128 * h.val + l.val)
      else bagCount (fun s => row' (ix2 0 s)) (128 * h.val + l.val) := by
  pointwise [pairCounts, k0_pay24]
  by_cases he : e.val < 1
  · rw [dif_pos he, if_pos he, pay23_at]
  · rw [dif_neg he, if_neg he]
    exact Finset.sum_congr rfl fun s _ => hot_slot _ h l

/-- The gradients in three pieces. -/
abbrev split3 (g : Fin 320 → EReal) (x : Fin 960) : EReal :=
  if h : x.val < 320 then g ⟨x.val, h⟩
  else if h' : x.val - 320 < 320 then g ⟨x.val - 320, h'⟩ - g ⟨x.val - 320, h'⟩
  else (g ⟨x.val - 320 - 320, by omega⟩ - g ⟨x.val - 320 - 320, by omega⟩) - (g ⟨x.val - 320 - 320, by omega⟩ - g ⟨x.val - 320 - 320, by omega⟩)

theorem split_at (g : Vec Ideal S384x320 .f32) (p : Fin 384) (x : Fin 960) :
    k0_pay2 (F := Ideal) g (ix2 p x) = split3 (fun b => g (ix2 p b)) x := by
  pointwise [k0_pay2]

/-- A sum over the three pieces of each bag, the bag's count each time. -/
theorem sum_split {κ : Type} [Fintype κ] (q : Fin 320 → κ → Prop) [∀ b, DecidablePred (q b)] (g : Fin 320 → EReal)
    (f : Fin 960 → EReal)
    (h0 : ∀ b : Fin 320, f ⟨b.val, by omega⟩ = Row.cnt (q b)) (h1 : ∀ b : Fin 320, f ⟨320 + b.val, by omega⟩ = Row.cnt (q b))
    (h2 : ∀ b : Fin 320, f ⟨640 + b.val, by omega⟩ = Row.cnt (q b)) :
    ∑ x : Fin 960, split3 g x * f x = Row.sumSplit q g := by
  have key := Fin.sum_univ_add (a := 640) (b := 320) fun x : Fin 960 => split3 g x * f x
  have key' := Fin.sum_univ_add (a := 320) (b := 320) fun x : Fin 640 => split3 g (Fin.castAdd 320 x) * f (Fin.castAdd 320 x)
  refine key.trans ?_
  unfold Row.sumSplit
  refine congrArg₂ (· + ·) (key'.trans (congrArg₂ (· + ·) ?_ ?_)) ?_
  · refine Finset.sum_congr rfl fun b _ => ?_
    refine congrArg₂ (· * ·) ?_ (h0 b)
    exact dif_pos b.isLt
  · refine Finset.sum_congr rfl fun b _ => ?_
    refine congrArg₂ (· * ·) ?_ (h1 b)
    have e : (⟨320 + b.val - 320, by omega⟩ : Fin 320) = b := Fin.ext (by show 320 + b.val - 320 = b.val; omega)
    refine (dif_neg (by show ¬ 320 + b.val < 320; omega)).trans ((dif_pos (by show 320 + b.val - 320 < 320; omega)).trans ?_)
    show g ⟨320 + b.val - 320, _⟩ - g ⟨320 + b.val - 320, _⟩ = _
    rw [e]
  · refine Finset.sum_congr rfl fun b _ => ?_
    refine congrArg₂ (· * ·) ?_ (h2 b)
    have e : (⟨640 + b.val - 320 - 320, by omega⟩ : Fin 320) = b := Fin.ext (by show 640 + b.val - 320 - 320 = b.val; omega)
    refine (dif_neg (by show ¬ 640 + b.val < 320; omega)).trans ((dif_neg (by show ¬ 640 + b.val - 320 < 320; omega)).trans ?_)
    show (g ⟨640 + b.val - 320 - 320, _⟩ - g ⟨640 + b.val - 320 - 320, _⟩) - (g ⟨640 + b.val - 320 - 320, _⟩ - g ⟨640 + b.val - 320 - 320, _⟩) = _
    rw [e]

end Cert.KernelIdeal.Gen
-- ==== Proof.Value.CountArrays.lean ====
/-
  Region 0's two arrays after the run: the counts of every row in every bag, and the gradients in three pieces.
-/
module

public import proofs.«01_k».proof.Proof.Value.Counts

@[expose] public section

set_option maxRecDepth 16384

noncomputable section

open Idealize.ShloMosaic Idealize.ShloMosaic.TcCoe Idealize.SL.Sem
open Idealize.ShloMosaic.Pipeline (Dat)

namespace Cert.KernelIdeal.Gen

open Cert.KernelIdeal

variable (V : (c : Dev nD) → (b : Ref sig .tc) → Buf (Elt Ideal) ((c : Thread nD τ).loc b))

/-- Where each window's block stands, at every grid point. -/
theorem idx0 : ∀ t : Fin cfg0.N, win0_0.index t = ![t.val, 0] ∧ win0_1.index t = ![0, 0] ∧ win0_2.index t = ![0, t.val, 0] ∧ win0_3.index t = ![0, 0] :=
  (by decide +kernel : ∀ t : Fin grid0.N, _)

/-- The counts: entry `(h, b, l)` is how often bag `b` names row `128 h + l`. -/
def ctOf (slots : Vec Ideal S320x256 .i32) : Vec Ideal S160x320x128 .bf16 :=
  fun j => bagCount (fun s => slots (ix2 (⟨(j 1).val, (j 1).isLt⟩ : Fin 320) s)) (128 * (j 0).val + (j 2).val)

/-- The gradients in three pieces, column by column. -/
def gsOf (g : Vec Ideal S384x320 .f32) : Vec Ideal S384x960 .bf16 :=
  fun j => split3 (fun b => g (ix2 (⟨(j 0).val, (j 0).isLt⟩ : Fin 384) b)) (⟨(j 1).val, (j 1).isLt⟩ : Fin 960)

/-- Two bags' counts side by side are the counts' array, wherever the two bags' slots stand next to each other. -/
theorem ct_pair (slots : Vec Ideal S320x256 .i32) (row row' : Vec Ideal S1x256 .i32) (n : ℕ) (hn : n + 1 < 320)
    (hr : ∀ s : Fin 256, row (ix2 0 s) = slots (ix2 (⟨n, by omega⟩ : Fin 320) s)) (hr' : ∀ s : Fin 256, row' (ix2 0 s) = slots (ix2 (⟨n + 1, hn⟩ : Fin 320) s))
    (x : S160x2x128.Idx) (j : S160x320x128.Idx) (hj0 : (j 0).val = (x 0).val) (hj1 : (j 1).val = n + (x 1).val) (hj2 : (j 2).val = (x 2).val) :
    pairCounts (F := Ideal) row row' x = ctOf slots j := by
  have hx : x = ix3 (⟨(x 0).val, (x 0).isLt⟩ : Fin 160) (⟨(x 1).val, (x 1).isLt⟩ : Fin 2) (⟨(x 2).val, (x 2).isLt⟩ : Fin 128) := by
    funext a
    match a with
    | ⟨0, _⟩ => rfl
    | ⟨1, _⟩ => rfl
    | ⟨2, _⟩ => rfl
  have hx1 : (x 1).val < 2 := (x 1).isLt
  rw [hx, pair_at]
  unfold ctOf
  simp only [hr, hr', hj0, hj2]
  by_cases h : (x 1).val < 1
  · rw [if_pos h]
    have : (j 1).val = n := by omega
    simp only [this]
  · rw [if_neg h]
    have : (j 1).val = n + 1 := by omega
    simp only [this]

/-- A bag's slots as a grid point reads them: bag `o` of point `t` is bag `16 t + o`. -/
theorem slot_row (c : Dev nD) (t : Fin cfg0.N) (o n : ℕ) (hn : n = 16 * t.val + o) (h : ∀ a, ![o, 0] a + ![1, 256] a ≤ S16x256.size a) (hn' : n < 320)
    (s : Fin 256) : View.ld (iblk0 V c 0 t) (Rect.unit ![o, 0] ![1, 256] h) (ix2 0 s) = V c main_arg4 (ix2 (⟨n, hn'⟩ : Fin 320) s) := by
  subst hn
  pointwise
  blk_ext [iblk0, idx0 t]

set_option maxHeartbeats 1000000 in
/-- The counts' array after the run. -/
theorem ct_final (c : Dev nD) : (dat0 V c).arrAt 2 cfg0.N = ctOf (V c main_arg4) := by
  refine (dat0 V c).arrAt_eq_of_covers 2 _ (by decide +kernel) fun t _ y => ?_
  have ht : t.val < 20 := t.isLt
  blk_simp
  rw [after0_2, out0_2_eq]
  canon_tiles x h
  case piece0 => exact ct_pair _ _ _ (16 * t.val + 14) (by omega) (fun s => slot_row V c t 14 _ rfl _ _ s) (fun s => slot_row V c t 15 _ rfl _ _ s) x _ (by blk_simp [idx0 t] <;> omega) (by blk_simp [idx0 t] <;> omega) (by blk_simp [idx0 t] <;> omega)
  case piece1 => exact ct_pair _ _ _ (16 * t.val + 12) (by omega) (fun s => slot_row V c t 12 _ rfl _ _ s) (fun s => slot_row V c t 13 _ rfl _ _ s) x _ (by blk_simp [idx0 t] <;> omega) (by blk_simp [idx0 t] <;> omega) (by blk_simp [idx0 t] <;> omega)
  case piece2 => exact ct_pair _ _ _ (16 * t.val + 10) (by omega) (fun s => slot_row V c t 10 _ rfl _ _ s) (fun s => slot_row V c t 11 _ rfl _ _ s) x _ (by blk_simp [idx0 t] <;> omega) (by blk_simp [idx0 t] <;> omega) (by blk_simp [idx0 t] <;> omega)
  case piece3 => exact ct_pair _ _ _ (16 * t.val + 8) (by omega) (fun s => slot_row V c t 8 _ rfl _ _ s) (fun s => slot_row V c t 9 _ rfl _ _ s) x _ (by blk_simp [idx0 t] <;> omega) (by blk_simp [idx0 t] <;> omega) (by blk_simp [idx0 t] <;> omega)
  case piece4 => exact ct_pair _ _ _ (16 * t.val + 6) (by omega) (fun s => slot_row V c t 6 _ rfl _ _ s) (fun s => slot_row V c t 7 _ rfl _ _ s) x _ (by blk_simp [idx0 t] <;> omega) (by blk_simp [idx0 t] <;> omega) (by blk_simp [idx0 t] <;> omega)
  case piece5 => exact ct_pair _ _ _ (16 * t.val + 4) (by omega) (fun s => slot_row V c t 4 _ rfl _ _ s) (fun s => slot_row V c t 5 _ rfl _ _ s) x _ (by blk_simp [idx0 t] <;> omega) (by blk_simp [idx0 t] <;> omega) (by blk_simp [idx0 t] <;> omega)
  case piece6 => exact ct_pair _ _ _ (16 * t.val + 2) (by omega) (fun s => slot_row V c t 2 _ rfl _ _ s) (fun s => slot_row V c t 3 _ rfl _ _ s) x _ (by blk_simp [idx0 t] <;> omega) (by blk_simp [idx0 t] <;> omega) (by blk_simp [idx0 t] <;> omega)
  case piece7 => exact ct_pair _ _ _ (16 * t.val + 0) (by omega) (fun s => slot_row V c t 0 _ rfl _ _ s) (fun s => slot_row V c t 1 _ rfl _ _ s) x _ (by blk_simp [idx0 t] <;> omega) (by blk_simp [idx0 t] <;> omega) (by blk_simp [idx0 t] <;> omega)

/-- The split gradients' block is their array. -/
theorem gs_row (g g' : Vec Ideal S384x320 .f32) (hg : ∀ (p : Fin 384) (b : Fin 320), g (ix2 p b) = g' (ix2 p b)) (y j : S384x960.Idx)
    (h0 : (j 0).val = (y 0).val) (h1 : (j 1).val = (y 1).val) : k0_pay2 (F := Ideal) g y = gsOf g' j := by
  have hy : y = ix2 (⟨(j 0).val, (j 0).isLt⟩ : Fin 384) (⟨(j 1).val, (j 1).isLt⟩ : Fin 960) := by
    funext a
    match a with
    | ⟨0, _⟩ => exact Fin.ext h0.symm
    | ⟨1, _⟩ => exact Fin.ext h1.symm
  rw [hy, split_at]
  unfold gsOf
  simp only [hg]

/-- The split gradients' array after the run. -/
theorem gs_final (c : Dev nD) : (dat0 V c).arrAt 3 cfg0.N = gsOf (V c main_v3) := by
  refine (dat0 V c).arrAt_eq_of_covers 3 _ (by decide +kernel) fun t _ y => ?_
  blk_simp
  rw [after0_3]
  frame_out
  refine gs_row _ _ (fun p b => ?_) y _ ?_ ?_
  · blk_ext [iblk0, idx0 t]
  all_goals (blk_simp [idx0 t] <;> try omega)

end Cert.KernelIdeal.Gen
-- ==== Proof.Value.Window.lean ====
/-
  The windows of the row update, all alike: four windows of 128 rows make up one grid point of region 1, and
  each window's stores hold the same functions of that window's reads.
-/
module

public import proofs.«01_k».proof.Proof.RunIdeal.UpdateRegion
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Gen

open Cert.KernelIdeal

variable (V : (c : Dev nD) → (b : Ref sig .tc) → Buf (Elt Ideal) ((c : Thread nD τ).loc b))

/-! ## One window's functions -/

/-- The accumulated gradient of a window's rows, transposed, columns in the order even, then odd. -/
def wG (ct : Vec Ideal S1x320x128 .bf16) (gs : Vec Ideal S384x960 .bf16) : FVec Ideal S384x128 .f32 := k1_pay3 ct gs
/-- The new accumulator. -/
def wState (ct : Vec Ideal S1x320x128 .bf16) (gs : Vec Ideal S384x960 .bf16) (mom : Vec Ideal S1x128 .f32) : FVec Ideal S1x128 .f32 :=
  k1_pay4 ct gs mom
/-- The step's multiplier. -/
def wMult (ct : Vec Ideal S1x320x128 .bf16) (gs : Vec Ideal S384x960 .bf16) (mom : Vec Ideal S1x128 .f32) : FVec Ideal S1x128 .f32 :=
  k1_pay5 ct gs mom
/-- The new values in the even columns. -/
def wE (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) : FVec Ideal S192x128 .f32 :=
  k1_pay11 (wG ct gs) (wMult ct gs mom) (k1_pay9 bi) (k1_pay10 wd sc)
/-- The new values in the odd columns. -/
def wO (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) : FVec Ideal S192x128 .f32 :=
  k1_pay12 (wG ct gs) (wMult ct gs mom) (k1_pay7 wd) (k1_pay8 sc) (k1_pay9 bi)
/-- The least new value of each row. -/
def wMin (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) : FVec Ideal S1x128 .f32 :=
  k1_pay13 (wG ct gs) (wMult ct gs mom) (k1_pay7 wd) (k1_pay8 sc) (k1_pay9 bi) (k1_pay10 wd sc)
/-- The range of the new values of each row. -/
def wRng (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) : FVec Ideal S1x128 .f32 :=
  k1_pay14 (wG ct gs) (wMult ct gs mom) (k1_pay7 wd) (k1_pay8 sc) (k1_pay9 bi) (k1_pay10 wd sc)
/-- Fifteen over the range. -/
def wInv (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) : FVec Ideal S1x128 .f32 :=
  k1_pay15 (wG ct gs) (wMult ct gs mom) (k1_pay7 wd) (k1_pay8 sc) (k1_pay9 bi) (k1_pay10 wd sc)
/-- The boxes of the even and the odd rows of a window's transposed random words. -/
def boxE : LoadRect S384x128 := ⟨![0, 0], ![192, 128], ![2, 1], inb_S384x128_S192x128_0_0_s_2_1⟩
/-- (the odd rows) -/
def boxO : LoadRect S384x128 := ⟨![1, 0], ![192, 128], ![2, 1], inb_S384x128_S192x128_1_0_s_2_1⟩
/-- The rows of the window's random words, transposed, that go with the even columns. -/
def rEven (rnd : Vec Ideal S128x384 .i32) : Vec Ideal S192x128 .i32 := fun j => k1_pay16 (F := Ideal) rnd (boxE.idx j)
/-- … with the odd columns. -/
def rOdd (rnd : Vec Ideal S128x384 .i32) : Vec Ideal S192x128 .i32 := fun j => k1_pay16 (F := Ideal) rnd (boxO.idx j)
/-- The packed codes, from the random words of the even and the odd columns. -/
def wCodes (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) (re ro : Vec Ideal S192x128 .i32) : IVec S192x128 8 :=
  k1_pay19 (wE ct gs mom wd sc bi) (wO ct gs mom wd sc bi) (wMin ct gs mom wd sc bi) (wInv ct gs mom wd sc bi)
    (k1_pay17 (F := Ideal) re) ro (k1_pay18)
/-- The new scale. -/
def wScale (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) : FVec Ideal S1x128 .f32 :=
  k1_pay20 (wRng ct gs mom wd sc bi)

/-! ## The four windows' functions are these -/

/-- A load from the scratch after a store of the whole of it reads that store. -/
theorem readCov_whole_cons (P : IVec S384x128 32) (L : List (View.Piece (Elt Ideal) S384x128 .i32)) (B : LoadRect S384x128) :
    (View.whole cc1_scratch0).readCov ((⟨Rect.unit ![0, 0] ![384, 128] inb_S384x128_S384x128_0_0, P⟩ : View.Piece (Elt Ideal) S384x128 .i32) :: L) B
      = fun j => P (B.idx j) := by
  rw [View.readCov_eq_canon']
  funext j
  exact congrFun (View.canon_cons_unit_zero (by decide +kernel : (![0, 0] : Fin 2 → ℕ) = fun _ => 0) inb_S384x128_S384x128_0_0 P L) _
/-- The even rows of a window's random words, read back from the scratch; -/
theorem readCov_even (rnd : Vec Ideal S128x384 .i32) (L : List (View.Piece (Elt Ideal) S384x128 .i32)) :
    (View.whole cc1_scratch0).readCov ((⟨Rect.unit ![0, 0] ![384, 128] inb_S384x128_S384x128_0_0, k1_pay16 (F := Ideal) rnd⟩ : View.Piece (Elt Ideal) S384x128 .i32) :: L)
      { off := ![0, 0], size := ![192, 128], stride := ![2, 1], inb := inb_S384x128_S192x128_0_0_s_2_1 } = rEven rnd :=
  readCov_whole_cons _ L boxE
/-- and the odd ones. -/
theorem readCov_odd (rnd : Vec Ideal S128x384 .i32) (L : List (View.Piece (Elt Ideal) S384x128 .i32)) :
    (View.whole cc1_scratch0).readCov ((⟨Rect.unit ![0, 0] ![384, 128] inb_S384x128_S384x128_0_0, k1_pay16 (F := Ideal) rnd⟩ : View.Piece (Elt Ideal) S384x128 .i32) :: L)
      { off := ![1, 0], size := ![192, 128], stride := ![2, 1], inb := inb_S384x128_S192x128_1_0_s_2_1 } = rOdd rnd :=
  readCov_whole_cons _ L boxO

theorem state_win0 (ct : Vec Ideal S1x320x128 .bf16) (gs : Vec Ideal S384x960 .bf16) (mom : Vec Ideal S1x128 .f32) :
    k1_pay4 ct gs mom
      = wState ct gs mom := by
  rfl
theorem mn_win0 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay13 (k1_pay3 ct gs) (k1_pay5 ct gs mom) (k1_pay7 wd) (k1_pay8 sc) (k1_pay9 bi) (k1_pay10 wd sc)
      = wMin ct gs mom wd sc bi := by
  rfl
theorem scale_win0 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay20 (k1_pay14 (k1_pay3 ct gs) (k1_pay5 ct gs mom) (k1_pay7 wd) (k1_pay8 sc) (k1_pay9 bi) (k1_pay10 wd sc))
      = wScale ct gs mom wd sc bi := by
  rfl
theorem codes_win0 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) (re ro : Vec Ideal S192x128 .i32) :
    k1_pay19 (k1_pay11 (k1_pay3 ct gs) (k1_pay5 ct gs mom) (k1_pay9 bi) (k1_pay10 wd sc)) (k1_pay12 (k1_pay3 ct gs) (k1_pay5 ct gs mom) (k1_pay7 wd) (k1_pay8 sc) (k1_pay9 bi)) (k1_pay13 (k1_pay3 ct gs) (k1_pay5 ct gs mom) (k1_pay7 wd) (k1_pay8 sc) (k1_pay9 bi) (k1_pay10 wd sc)) (k1_pay15 (k1_pay3 ct gs) (k1_pay5 ct gs mom) (k1_pay7 wd) (k1_pay8 sc) (k1_pay9 bi) (k1_pay10 wd sc)) (k1_pay17 (F := Ideal) re) ro k1_pay18
      = wCodes ct gs mom wd sc bi re ro := by
  rfl
theorem state_win1 (ct : Vec Ideal S1x320x128 .bf16) (gs : Vec Ideal S384x960 .bf16) (mom : Vec Ideal S1x128 .f32) :
    k1_pay23 (k1_pay21 ct) gs mom
      = wState ct gs mom := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay36, k1_pay37, k1_pay38, k1_pay39, k1_pay40]
theorem mn_win1 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay32 (k1_pay22 (k1_pay21 ct) gs) (k1_pay24 (k1_pay21 ct) gs mom) (k1_pay26 wd) (k1_pay28 bi) (k1_pay29 (k1_pay21 ct) gs mom wd sc bi) (k1_pay30 sc)
      = wMin ct gs mom wd sc bi := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay36, k1_pay37, k1_pay38, k1_pay39, k1_pay40]
theorem scale_win1 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay40 (k1_pay33 (k1_pay22 (k1_pay21 ct) gs) (k1_pay24 (k1_pay21 ct) gs mom) (k1_pay26 wd) (k1_pay28 bi) (k1_pay29 (k1_pay21 ct) gs mom wd sc bi) (k1_pay30 sc))
      = wScale ct gs mom wd sc bi := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay36, k1_pay37, k1_pay38, k1_pay39, k1_pay40]
theorem codes_win1 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) (re ro : Vec Ideal S192x128 .i32) :
    k1_pay39 (k1_pay31 (k1_pay22 (k1_pay21 ct) gs) (k1_pay24 (k1_pay21 ct) gs mom) (k1_pay26 wd) (k1_pay28 bi) (k1_pay30 sc)) (k1_pay32 (k1_pay22 (k1_pay21 ct) gs) (k1_pay24 (k1_pay21 ct) gs mom) (k1_pay26 wd) (k1_pay28 bi) (k1_pay29 (k1_pay21 ct) gs mom wd sc bi) (k1_pay30 sc)) (k1_pay34 (k1_pay22 (k1_pay21 ct) gs) (k1_pay24 (k1_pay21 ct) gs mom) (k1_pay26 wd) (k1_pay28 bi) (k1_pay29 (k1_pay21 ct) gs mom wd sc bi) (k1_pay30 sc)) (k1_pay36 (F := Ideal) re) (k1_pay37 (F := Ideal) ro) (k1_pay38 (k1_pay22 (k1_pay21 ct) gs) (k1_pay24 (k1_pay21 ct) gs mom) (k1_pay26 wd) (k1_pay28 bi) (k1_pay29 (k1_pay21 ct) gs mom wd sc bi) (k1_pay30 sc))
      = wCodes ct gs mom wd sc bi re ro := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay36, k1_pay37, k1_pay38, k1_pay39, k1_pay40]
  try rfl
theorem state_win2 (ct : Vec Ideal S1x320x128 .bf16) (gs : Vec Ideal S384x960 .bf16) (mom : Vec Ideal S1x128 .f32) :
    k1_pay42 (k1_pay41 ct gs) mom
      = wState ct gs mom := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay41, k1_pay42, k1_pay43, k1_pay44, k1_pay45, k1_pay46, k1_pay47, k1_pay48, k1_pay49, k1_pay50, k1_pay51, k1_pay53, k1_pay54, k1_pay55, k1_pay56, k1_pay57]
theorem mn_win2 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay49 (k1_pay47 (k1_pay41 ct gs) mom wd sc bi) (k1_pay48 (k1_pay41 ct gs) mom wd sc bi)
      = wMin ct gs mom wd sc bi := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay41, k1_pay42, k1_pay43, k1_pay44, k1_pay45, k1_pay46, k1_pay47, k1_pay48, k1_pay49, k1_pay50, k1_pay51, k1_pay53, k1_pay54, k1_pay55, k1_pay56, k1_pay57]
theorem scale_win2 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay57 (k1_pay50 (k1_pay47 (k1_pay41 ct gs) mom wd sc bi) (k1_pay48 (k1_pay41 ct gs) mom wd sc bi))
      = wScale ct gs mom wd sc bi := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay41, k1_pay42, k1_pay43, k1_pay44, k1_pay45, k1_pay46, k1_pay47, k1_pay48, k1_pay49, k1_pay50, k1_pay51, k1_pay53, k1_pay54, k1_pay55, k1_pay56, k1_pay57]
theorem codes_win2 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) (re ro : Vec Ideal S192x128 .i32) :
    k1_pay56 (k1_pay48 (k1_pay41 ct gs) mom wd sc bi) (k1_pay49 (k1_pay47 (k1_pay41 ct gs) mom wd sc bi) (k1_pay48 (k1_pay41 ct gs) mom wd sc bi)) (k1_pay51 (k1_pay47 (k1_pay41 ct gs) mom wd sc bi) (k1_pay48 (k1_pay41 ct gs) mom wd sc bi)) (k1_pay53 (F := Ideal) ro) (k1_pay54 (k1_pay47 (k1_pay41 ct gs) mom wd sc bi) (k1_pay48 (k1_pay41 ct gs) mom wd sc bi) re) (FloatOps.ofBits .f32 1097859072#32) k1_pay55
      = wCodes ct gs mom wd sc bi re ro := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay41, k1_pay42, k1_pay43, k1_pay44, k1_pay45, k1_pay46, k1_pay47, k1_pay48, k1_pay49, k1_pay50, k1_pay51, k1_pay53, k1_pay54, k1_pay55, k1_pay56, k1_pay57]
  try rfl
theorem state_win3 (ct : Vec Ideal S1x320x128 .bf16) (gs : Vec Ideal S384x960 .bf16) (mom : Vec Ideal S1x128 .f32) :
    k1_pay61 (k1_pay59 mom) (k1_pay60 ct gs)
      = wState ct gs mom := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay58, k1_pay59, k1_pay60, k1_pay61, k1_pay62, k1_pay63, k1_pay64, k1_pay65, k1_pay66, k1_pay67, k1_pay68, k1_pay69, k1_pay70, k1_pay72, k1_pay73, k1_pay74, k1_pay1, k1_pay2]
theorem mn_win3 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay68 (k1_pay58 ct gs) (k1_pay59 mom) (k1_pay60 ct gs) wd sc bi
      = wMin ct gs mom wd sc bi := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay58, k1_pay59, k1_pay60, k1_pay61, k1_pay62, k1_pay63, k1_pay64, k1_pay65, k1_pay66, k1_pay67, k1_pay68, k1_pay69, k1_pay70, k1_pay72, k1_pay73, k1_pay74, k1_pay1, k1_pay2]
theorem scale_win3 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) :
    k1_pay2 (k1_pay69 (k1_pay66 (k1_pay58 ct gs) (k1_pay59 mom) (k1_pay60 ct gs) wd sc bi) (k1_pay67 (k1_pay58 ct gs) (k1_pay59 mom) (k1_pay60 ct gs) wd sc bi) (k1_pay68 (k1_pay58 ct gs) (k1_pay59 mom) (k1_pay60 ct gs) wd sc bi))
      = wScale ct gs mom wd sc bi := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay58, k1_pay59, k1_pay60, k1_pay61, k1_pay62, k1_pay63, k1_pay64, k1_pay65, k1_pay66, k1_pay67, k1_pay68, k1_pay69, k1_pay70, k1_pay72, k1_pay73, k1_pay74, k1_pay1, k1_pay2]
theorem codes_win3 (ct : Vec Ideal S1x320x128 .bf16) (gs : Vec Ideal S384x960 .bf16) (mom : Vec Ideal S1x128 .f32) (wd : Vec Ideal S1x48x128 .i32)
    (sc : Vec Ideal S1x128 .f32) (bi : Vec Ideal S1x128 .f32) (re ro : Vec Ideal S192x128 .i32) :
    k1_pay1 (k1_pay72 (F := Ideal) ro) (k1_pay73 (k1_pay66 (k1_pay58 ct gs) (k1_pay59 mom) (k1_pay60 ct gs) wd sc bi) (k1_pay67 (k1_pay58 ct gs) (k1_pay59 mom) (k1_pay60 ct gs) wd sc bi) (k1_pay68 (k1_pay58 ct gs) (k1_pay59 mom) (k1_pay60 ct gs) wd sc bi) re) (k1_pay74 (k1_pay66 (k1_pay58 ct gs) (k1_pay59 mom) (k1_pay60 ct gs) wd sc bi) (k1_pay67 (k1_pay58 ct gs) (k1_pay59 mom) (k1_pay60 ct gs) wd sc bi) (k1_pay68 (k1_pay58 ct gs) (k1_pay59 mom) (k1_pay60 ct gs) wd sc bi))
      = wCodes ct gs mom wd sc bi re ro := by
  dsimp only [wG, wState, wMult, wE, wO, wMin, wRng, wInv, wScale, wCodes, k1_pay3, k1_pay4, k1_pay5, k1_pay6, k1_pay7, k1_pay8, k1_pay9, k1_pay10, k1_pay11, k1_pay12, k1_pay13, k1_pay14, k1_pay15, k1_pay17, k1_pay18, k1_pay19, k1_pay20, k1_pay58, k1_pay59, k1_pay60, k1_pay61, k1_pay62, k1_pay63, k1_pay64, k1_pay65, k1_pay66, k1_pay67, k1_pay68, k1_pay69, k1_pay70, k1_pay72, k1_pay73, k1_pay74, k1_pay1, k1_pay2]
  try rfl
theorem rnd_win1 (rnd : Vec Ideal S128x384 .i32) : k1_pay35 (F := Ideal) rnd = k1_pay16 (F := Ideal) rnd := rfl
theorem rnd_win2 (rnd : Vec Ideal S128x384 .i32) : k1_pay52 (F := Ideal) rnd = k1_pay16 (F := Ideal) rnd := rfl
theorem rnd_win3 (rnd : Vec Ideal S128x384 .i32) : k1_pay71 (F := Ideal) rnd = k1_pay16 (F := Ideal) rnd := rfl

/-! ## The four windows' stores -/

set_option maxHeartbeats 400000 in
/-- The new accumulator of a grid point's rows, window by window (the last first). -/
theorem outs1_10 (c : Dev nD) (t : Fin cfg1.N) : (outsAt1 V c t).2.2.2 = View.canon
    [⟨Rect.unit ![0, 384] ![1, 128] inb_S1x512_S1x128_0_384,
      wState (View.ld (iblk1 V c 1 t) (Rect.unit ![3, 0, 0] ![1, 320, 128] inb_S4x320x128_S1x320x128_3_0_0)) (iblk1 V c 0 t) (View.ld (iblk1 V c 6 t) (Rect.unit ![0, 384] ![1, 128] inb_S1x512_S1x128_0_384))⟩,
     ⟨Rect.unit ![0, 256] ![1, 128] inb_S1x512_S1x128_0_256,
      wState (View.ld (iblk1 V c 1 t) (Rect.unit ![2, 0, 0] ![1, 320, 128] inb_S4x320x128_S1x320x128_2_0_0)) (iblk1 V c 0 t) (View.ld (iblk1 V c 6 t) (Rect.unit ![0, 256] ![1, 128] inb_S1x512_S1x128_0_256))⟩,
     ⟨Rect.unit ![0, 128] ![1, 128] inb_S1x512_S1x128_0_128,
      wState (View.ld (iblk1 V c 1 t) (Rect.unit ![1, 0, 0] ![1, 320, 128] inb_S4x320x128_S1x320x128_1_0_0)) (iblk1 V c 0 t) (View.ld (iblk1 V c 6 t) (Rect.unit ![0, 128] ![1, 128] inb_S1x512_S1x128_0_128))⟩,
     ⟨Rect.unit ![0, 0] ![1, 128] inb_S1x512_S1x128_0_0,
      wState (View.ld (iblk1 V c 1 t) (Rect.unit ![0, 0, 0] ![1, 320, 128] inb_S4x320x128_S1x320x128_0_0_0)) (iblk1 V c 0 t) (View.ld (iblk1 V c 6 t) (Rect.unit ![0, 0] ![1, 128] inb_S1x512_S1x128_0_0))⟩] := by
  unfold outsAt1; frame_out
  rw [state_win3, state_win2, state_win1, state_win0]
  rfl

set_option maxHeartbeats 400000 in
/-- The new bias of a grid point's rows, window by window (the last first). -/
theorem outs1_9 (c : Dev nD) (t : Fin cfg1.N) : (outsAt1 V c t).2.2.1 = View.canon
    [⟨Rect.unit ![0, 384] ![1, 128] inb_S1x512_S1x128_0_384,
      wMin (View.ld (iblk1 V c 1 t) (Rect.unit ![3, 0, 0] ![1, 320, 128] inb_S4x320x128_S1x320x128_3_0_0)) (iblk1 V c 0 t) (View.ld (iblk1 V c 6 t) (Rect.unit ![0, 384] ![1, 128] inb_S1x512_S1x128_0_384)) (View.ld (iblk1 V c 2 t) (Rect.unit ![3, 0, 0] ![1, 48, 128] inb_S4x48x128_S1x48x128_3_0_0)) (View.ld (iblk1 V c 4 t) (Rect.unit ![0, 384] ![1, 128] inb_S1x512_S1x128_0_384)) (View.ld (iblk1 V c 5 t) (Rect.unit ![0, 384] ![1, 128] inb_S1x512_S1x128_0_384))⟩,
     ⟨Rect.unit ![0, 256] ![1, 128] inb_S1x512_S1x128_0_256,
      wMin (View.ld (iblk1 V c 1 t) (Rect.unit ![2, 0, 0] ![1, 320, 128] inb_S4x320x128_S1x320x128_2_0_0)) (iblk1 V c 0 t) (View.ld (iblk1 V c 6 t) (Rect.unit ![0, 256] ![1, 128] inb_S1x512_S1x128_0_256)) (View.ld (iblk1 V c 2 t) (Rect.unit ![2, 0, 0] ![1, 48, 128] inb_S4x48x128_S1x48x128_2_0_0)) (View.ld (iblk1 V c 4 t) (Rect.unit ![0, 256] ![1, 128] inb_S1x512_S1x128_0_256)) (View.ld (iblk1 V c 5 t) (Rect.unit ![0, 256] ![1, 128] inb_S1x512_S1x128_0_256))⟩,
     ⟨Rect.unit ![0, 128] ![1, 128] inb_S1x512_S1x128_0_128,
      wMin (View.ld (iblk1 V c 1 t) (Rect.unit ![1, 0, 0] ![1, 320, 128] inb_S4x320x128_S1x320x128_1_0_0)) (iblk1 V c 0 t) (View.ld (iblk1 V c 6 t) (Rect.unit ![0, 128] ![1, 128] inb_S1x512_S1x128_0_128)) (View.ld (iblk1 V c 2 t) (Rect.unit ![1, 0, 0] ![1, 48, 128] inb_S4x48x128_S1x48x128_1_0_0)) (View.ld (iblk1 V c 4 t) (Rect.unit ![0, 128] ![1, 128] inb_S1x512_S1x128_0_128)) (View.ld (iblk1 V c 5 t) (Rect.unit ![0, 128] ![1, 128] inb_S1x512_S1x128_0_128))⟩,
     ⟨Rect.unit ![0, 0] ![1, 128] inb_S1x512_S1x128_0_0,
      wMin (View.ld (iblk1 V c 1 t) (Rect.unit ![0, 0, 0] ![1, 320, 128] inb_S4x320x128_S1x320x128_0_0_0)) (iblk1 V c 0 t) (View.ld (iblk1 V c 6 t) (Rect.unit ![0, 0] ![1, 128] inb_S1x512_S1x128_0_0)) (View.ld (iblk1 V c 2 t) (Rect.unit ![0, 0, 0] ![1, 48, 128] inb_S4x48x128_S1x48x128_0_0_0)) (View.ld (iblk1 V c 4 t) (Rect.unit ![0, 0] ![1, 128] inb_S1x512_S1x128_0_0)) (View.ld (iblk1 V c 5 t) (Rect.unit ![0, 0] ![1, 128] inb_S1x512_S1x128_0_0))⟩] := by
  unfold outsAt1; frame_out
  rw [mn_win3, mn_win2, mn_win1, mn_win0]
  rfl

set_option maxHeartbeats 400000 in
/-- The new scale of a grid point's rows, window by window (the last first). -/
theorem outs1_8 (c : Dev nD) (t : Fin cfg1.N) : (outsAt1 V c t).2.1 = View.canon
    [⟨Rect.unit ![0, 384] ![1, 128] inb_S1x512_S1x128_0_384,
      wScale (View.ld (iblk1 V c 1 t) (Rect.unit ![3, 0, 0] ![1, 320, 128] inb_S4x320x128_S1x320x128_3_0_0)) (iblk1 V c 0 t) (View.ld (iblk1 V c 6 t) (Rect.unit ![0, 384] ![1, 128] inb_S1x512_S1x128_0_384)) (View.ld (iblk1 V c 2 t) (Rect.unit ![3, 0, 0] ![1, 48, 128] inb_S4x48x128_S1x48x128_3_0_0)) (View.ld (iblk1 V c 4 t) (Rect.unit ![0, 384] ![1, 128] inb_S1x512_S1x128_0_384)) (View.ld (iblk1 V c 5 t) (Rect.unit ![0, 384] ![1, 128] inb_S1x512_S1x128_0_384))⟩,
     ⟨Rect.unit ![0, 256] ![1, 128] inb_S1x512_S1x128_0_256,
      wScale (View.ld (iblk1 V c 1 t) (Rect.unit ![2, 0, 0] ![1, 320, 128] inb_S4x320x128_S1x320x128_2_0_0)) (iblk1 V c 0 t) (View.ld (iblk1 V c 6 t) (Rect.unit ![0, 256] ![1, 128] inb_S1x512_S1x128_0_256)) (View.ld (iblk1 V c 2 t) (Rect.unit ![2, 0, 0] ![1, 48, 128] inb_S4x48x128_S1x48x128_2_0_0)) (View.ld (iblk1 V c 4 t) (Rect.unit ![0, 256] ![1, 128] inb_S1x512_S1x128_0_256)) (View.ld (iblk1 V c 5 t) (Rect.unit ![0, 256] ![1, 128] inb_S1x512_S1x128_0_256))⟩,
     ⟨Rect.unit ![0, 128] ![1, 128] inb_S1x512_S1x128_0_128,
      wScale (View.ld (iblk1 V c 1 t) (Rect.unit ![1, 0, 0] ![1, 320, 128] inb_S4x320x128_S1x320x128_1_0_0)) (iblk1 V c 0 t) (View.ld (iblk1 V c 6 t) (Rect.unit ![0, 128] ![1, 128] inb_S1x512_S1x128_0_128)) (View.ld (iblk1 V c 2 t) (Rect.unit ![1, 0, 0] ![1, 48, 128] inb_S4x48x128_S1x48x128_1_0_0)) (View.ld (iblk1 V c 4 t) (Rect.unit ![0, 128] ![1, 128] inb_S1x512_S1x128_0_128)) (View.ld (iblk1 V c 5 t) (Rect.unit ![0, 128] ![1, 128] inb_S1x512_S1x128_0_128))⟩,
     ⟨Rect.unit ![0, 0] ![1, 128] inb_S1x512_S1x128_0_0,
      wScale (View.ld (iblk1 V c 1 t) (Rect.unit ![0, 0, 0] ![1, 320, 128] inb_S4x320x128_S1x320x128_0_0_0)) (iblk1 V c 0 t) (View.ld (iblk1 V c 6 t) (Rect.unit ![0, 0] ![1, 128] inb_S1x512_S1x128_0_0)) (View.ld (iblk1 V c 2 t) (Rect.unit ![0, 0, 0] ![1, 48, 128] inb_S4x48x128_S1x48x128_0_0_0)) (View.ld (iblk1 V c 4 t) (Rect.unit ![0, 0] ![1, 128] inb_S1x512_S1x128_0_0)) (View.ld (iblk1 V c 5 t) (Rect.unit ![0, 0] ![1, 128] inb_S1x512_S1x128_0_0))⟩] := by
  unfold outsAt1; frame_out
  rw [scale_win3, scale_win2, scale_win1, scale_win0]
  rfl

set_option maxHeartbeats 400000 in
/-- The packed codes of a grid point's rows, window by window (the last first). -/
theorem outs1_7 (c : Dev nD) (t : Fin cfg1.N) : (outsAt1 V c t).1 = View.canon
    [⟨Rect.unit ![0, 384] ![192, 128] inb_S192x512_S192x128_0_384,
      wCodes (View.ld (iblk1 V c 1 t) (Rect.unit ![3, 0, 0] ![1, 320, 128] inb_S4x320x128_S1x320x128_3_0_0)) (iblk1 V c 0 t) (View.ld (iblk1 V c 6 t) (Rect.unit ![0, 384] ![1, 128] inb_S1x512_S1x128_0_384)) (View.ld (iblk1 V c 2 t) (Rect.unit ![3, 0, 0] ![1, 48, 128] inb_S4x48x128_S1x48x128_3_0_0)) (View.ld (iblk1 V c 4 t) (Rect.unit ![0, 384] ![1, 128] inb_S1x512_S1x128_0_384)) (View.ld (iblk1 V c 5 t) (Rect.unit ![0, 384] ![1, 128] inb_S1x512_S1x128_0_384)) (rEven (View.ld (iblk1 V c 3 t) (Rect.unit ![384, 0] ![128, 384] inb_S512x384_S128x384_384_0))) (rOdd (View.ld (iblk1 V c 3 t) (Rect.unit ![384, 0] ![128, 384] inb_S512x384_S128x384_384_0)))⟩,
     ⟨Rect.unit ![0, 256] ![192, 128] inb_S192x512_S192x128_0_256,
      wCodes (View.ld (iblk1 V c 1 t) (Rect.unit ![2, 0, 0] ![1, 320, 128] inb_S4x320x128_S1x320x128_2_0_0)) (iblk1 V c 0 t) (View.ld (iblk1 V c 6 t) (Rect.unit ![0, 256] ![1, 128] inb_S1x512_S1x128_0_256)) (View.ld (iblk1 V c 2 t) (Rect.unit ![2, 0, 0] ![1, 48, 128] inb_S4x48x128_S1x48x128_2_0_0)) (View.ld (iblk1 V c 4 t) (Rect.unit ![0, 256] ![1, 128] inb_S1x512_S1x128_0_256)) (View.ld (iblk1 V c 5 t) (Rect.unit ![0, 256] ![1, 128] inb_S1x512_S1x128_0_256)) (rEven (View.ld (iblk1 V c 3 t) (Rect.unit ![256, 0] ![128, 384] inb_S512x384_S128x384_256_0))) (rOdd (View.ld (iblk1 V c 3 t) (Rect.unit ![256, 0] ![128, 384] inb_S512x384_S128x384_256_0)))⟩,
     ⟨Rect.unit ![0, 128] ![192, 128] inb_S192x512_S192x128_0_128,
      wCodes (View.ld (iblk1 V c 1 t) (Rect.unit ![1, 0, 0] ![1, 320, 128] inb_S4x320x128_S1x320x128_1_0_0)) (iblk1 V c 0 t) (View.ld (iblk1 V c 6 t) (Rect.unit ![0, 128] ![1, 128] inb_S1x512_S1x128_0_128)) (View.ld (iblk1 V c 2 t) (Rect.unit ![1, 0, 0] ![1, 48, 128] inb_S4x48x128_S1x48x128_1_0_0)) (View.ld (iblk1 V c 4 t) (Rect.unit ![0, 128] ![1, 128] inb_S1x512_S1x128_0_128)) (View.ld (iblk1 V c 5 t) (Rect.unit ![0, 128] ![1, 128] inb_S1x512_S1x128_0_128)) (rEven (View.ld (iblk1 V c 3 t) (Rect.unit ![128, 0] ![128, 384] inb_S512x384_S128x384_128_0))) (rOdd (View.ld (iblk1 V c 3 t) (Rect.unit ![128, 0] ![128, 384] inb_S512x384_S128x384_128_0)))⟩,
     ⟨Rect.unit ![0, 0] ![192, 128] inb_S192x512_S192x128_0_0,
      wCodes (View.ld (iblk1 V c 1 t) (Rect.unit ![0, 0, 0] ![1, 320, 128] inb_S4x320x128_S1x320x128_0_0_0)) (iblk1 V c 0 t) (View.ld (iblk1 V c 6 t) (Rect.unit ![0, 0] ![1, 128] inb_S1x512_S1x128_0_0)) (View.ld (iblk1 V c 2 t) (Rect.unit ![0, 0, 0] ![1, 48, 128] inb_S4x48x128_S1x48x128_0_0_0)) (View.ld (iblk1 V c 4 t) (Rect.unit ![0, 0] ![1, 128] inb_S1x512_S1x128_0_0)) (View.ld (iblk1 V c 5 t) (Rect.unit ![0, 0] ![1, 128] inb_S1x512_S1x128_0_0)) (rEven (View.ld (iblk1 V c 3 t) (Rect.unit ![0, 0] ![128, 384] inb_S512x384_S128x384_0_0))) (rOdd (View.ld (iblk1 V c 3 t) (Rect.unit ![0, 0] ![128, 384] inb_S512x384_S128x384_0_0)))⟩] := by
  unfold outsAt1; frame_out
  rw [rnd_win1, rnd_win2, rnd_win3]
  repeat rw [readCov_even]
  repeat rw [readCov_odd]
  rw [codes_win3, codes_win2, codes_win1, codes_win0]
  rfl

end Cert.KernelIdeal.Gen
-- ==== Proof.Value.WindowAt.lean ====
/-
  One window of the row update, at a row: its functions are the row formulas over whatever the window's product
  gives as the row's gradient sums.
-/
module

public import proofs.«01_k».proof.Proof.Value.Window
public import proofs.«01_k».proof.Proof.Value.Row
public import proofs.«01_k».proof.Proof.Value.Nibble

@[expose] public section

set_option maxRecDepth 16384

noncomputable section

open Idealize.ShloMosaic Idealize.ShloMosaic.TcCoe Idealize.SL.Sem

namespace Cert.Row

/-- The code of an even column, -/
theorem codeOf_even (w : Fin 48 → BitVec 32) (p : Fin 192) :
    codeOf w (evenCol p) = ((((w ⟨p.val / 4, by omega⟩).toNat / 2 ^ (8 * (p.val % 4)) % 16 : ℕ) : ℝ) : EReal) := by
  unfold codeOf nib nibNat evenCol
  have e : 2 * p.val / 2 = p.val := by omega
  have e' : 2 * p.val % 2 = 0 := by omega
  simp only [e, e', Nat.mul_zero, Nat.add_zero]
/-- and of an odd one. -/
theorem codeOf_odd (w : Fin 48 → BitVec 32) (p : Fin 192) :
    codeOf w (oddCol p) = ((((w ⟨p.val / 4, by omega⟩).toNat / 2 ^ (8 * (p.val % 4) + 4) % 16 : ℕ) : ℝ) : EReal) := by
  unfold codeOf nib nibNat oddCol
  have e : (1 + 2 * p.val) / 2 = p.val := by omega
  have e' : (1 + 2 * p.val) % 2 = 1 := by omega
  simp only [e, e', Nat.mul_one]

theorem colOf_lo (p : Fin 192) : colOf ⟨p.val, by omega⟩ = evenCol p := by
  unfold colOf
  rw [dif_pos p.isLt]
theorem colOf_hi (p : Fin 192) : colOf ⟨192 + p.val, by omega⟩ = oddCol p := by
  unfold colOf
  rw [dif_neg (by show ¬ 192 + p.val < 192; omega)]
  exact Fin.ext (by show 1 + 2 * (192 + p.val - 192) = 1 + 2 * p.val; omega)

end Cert.Row

namespace Cert.KernelIdeal.Gen

open Cert.KernelIdeal

variable (ct : Vec Ideal S1x320x128 .bf16) (gs : Vec Ideal S384x960 .bf16) (mom : Vec Ideal S1x128 .f32) (wd : Vec Ideal S1x48x128 .i32)
  (sc : Vec Ideal S1x128 .f32) (bi : Vec Ideal S1x128 .f32) (re ro : Vec Ideal S192x128 .i32)

/-- The low halves of the words' bytes, as numbers. -/
theorem pay10_code (p : Fin 192) (l : Fin 128) :
    k1_pay10 wd sc (ix2 p l) = Row.codeOf (fun j => wd (ix3 0 j l)) (Row.evenCol p) * sc (ix2 0 l) := by
  have h : k1_pay10 wd sc (ix2 p l) = (((bitcast S192x128 8 (andi (shapeCast S48x128 wd shapeCasts_S1x48x128_S48x128) (broadcast S48x128 252645135#32)) bitcasts_S48x128_w32_S192x128_w8 (ix2 p l)).toInt : ℝ) : EReal) * sc (ix2 0 l) := by
    pointwise [k1_pay10, k1_pay8, k1_pay6]
    rfl
  rw [h, Row.codeOf_even]
  have hb := Row.bitcast_32_8_ix2 (andi (shapeCast S48x128 wd shapeCasts_S1x48x128_S48x128) (broadcast S48x128 252645135#32)) bitcasts_S48x128_w32_S192x128_w8 p l
    ⟨p.val / 4, by omega⟩ (p.val % 4) (by omega) (by show p.val = 4 * (p.val / 4) + p.val % 4; omega)
  have hw : andi (shapeCast S48x128 wd shapeCasts_S1x48x128_S48x128) (broadcast S48x128 252645135#32) (ix2 (⟨p.val / 4, by omega⟩ : Fin 48) l)
      = wd (ix3 0 (⟨p.val / 4, by omega⟩ : Fin 48) l) &&& 252645135#32 := by
    pointwise []
    rfl
  refine congrArg (· * sc (ix2 0 l)) ?_
  refine (congrArg (fun b : BitVec 8 => ((b.toInt : ℝ) : EReal)) (hb.trans (congrArg (fun y : BitVec 32 => y.extractLsb' (8 * (p.val % 4)) 8) hw))).trans ?_
  show ((((wd (ix3 0 (⟨p.val / 4, by omega⟩ : Fin 48) l) &&& 252645135#32).extractLsb' (8 * (p.val % 4)) 8).toInt : ℝ) : EReal) = _
  rw [Row.mask_byte _ _ (by omega), Int.cast_natCast]

/-- The high halves. -/
theorem pay7_code (p : Fin 192) (l : Fin 128) :
    k1_pay7 (F := Ideal) wd (ix2 p l) = Row.codeOf (fun j => wd (ix3 0 j l)) (Row.oddCol p) := by
  have h : k1_pay7 (F := Ideal) wd (ix2 p l) = (((bitcast S192x128 8 (andi (shrui (shapeCast S48x128 wd shapeCasts_S1x48x128_S48x128) (broadcast S48x128 4#32)) (broadcast S48x128 252645135#32)) bitcasts_S48x128_w32_S192x128_w8 (ix2 p l)).toInt : ℝ) : EReal) := by
    pointwise [k1_pay7, k1_pay6]
    rfl
  rw [h, Row.codeOf_odd]
  have hb := Row.bitcast_32_8_ix2 (andi (shrui (shapeCast S48x128 wd shapeCasts_S1x48x128_S48x128) (broadcast S48x128 4#32)) (broadcast S48x128 252645135#32)) bitcasts_S48x128_w32_S192x128_w8 p l
    ⟨p.val / 4, by omega⟩ (p.val % 4) (by omega) (by show p.val = 4 * (p.val / 4) + p.val % 4; omega)
  have hw : andi (shrui (shapeCast S48x128 wd shapeCasts_S1x48x128_S48x128) (broadcast S48x128 4#32)) (broadcast S48x128 252645135#32) (ix2 (⟨p.val / 4, by omega⟩ : Fin 48) l)
      = (wd (ix3 0 (⟨p.val / 4, by omega⟩ : Fin 48) l) >>> 4) &&& 252645135#32 := by
    pointwise []
    rw [Row.shrui_vector4]
    rfl
  refine (congrArg (fun b : BitVec 8 => ((b.toInt : ℝ) : EReal)) (hb.trans (congrArg (fun y : BitVec 32 => y.extractLsb' (8 * (p.val % 4)) 8) hw))).trans ?_
  show (((((wd (ix3 0 (⟨p.val / 4, by omega⟩ : Fin 48) l) >>> 4) &&& 252645135#32).extractLsb' (8 * (p.val % 4)) 8).toInt : ℝ) : EReal) = _
  rw [Row.mask_byte_shift _ _ (by omega), Int.cast_natCast]

section
variable (l : Fin 128) (G : Fin 384 → EReal) (hG : ∀ p : Fin 384, wG ct gs (ix2 p l) = G (Row.colOf p))
include hG

/-- The row's new values. -/
abbrev winW : Fin 384 → EReal :=
  Row.newVal (Row.codeOf fun j => wd (ix3 0 j l)) (sc (ix2 0 l)) (bi (ix2 0 l)) (mom (ix2 0 l)) G

theorem wState_at : wState ct gs mom (ix2 0 l) = Row.state G (mom (ix2 0 l)) := by
  have h : wState ct gs mom (ix2 0 l) = mom (ix2 0 l) + Ideal.div (∑ x : Fin 384, wG ct gs (ix2 x l) * wG ct gs (ix2 x l)) Row.cN := by
    pointwise [wState, k1_pay4, wG]
  rw [h]
  simp only [hG]
  unfold Row.state
  rw [Row.sum_colOf fun d => G d * G d]

theorem wMult_at : wMult ct gs mom (ix2 0 l) = Row.mult G (mom (ix2 0 l)) := by
  have h : wMult ct gs mom (ix2 0 l) = Ideal.div Row.cLR (Ideal.sqrt (wState ct gs mom (ix2 0 l)) + Row.cEps) := by
    pointwise [wMult, k1_pay5, wState]
  rw [h, wState_at ct gs mom l G hG]
  rfl

theorem wE_at (p : Fin 192) : wE ct gs mom wd sc bi (ix2 p l) = winW mom wd sc bi l G (Row.evenCol p) := by
  have h : wE ct gs mom wd sc bi (ix2 p l) = k1_pay10 wd sc (ix2 p l) + bi (ix2 0 l) - wMult ct gs mom (ix2 0 l) * wG ct gs (ix2 (⟨p.val, by omega⟩ : Fin 384) l) := by
    pointwise [wE, k1_pay11, k1_pay9]
  rw [h, pay10_code, wMult_at ct gs mom l G hG, hG, Row.colOf_lo]
  rfl

theorem wO_at (p : Fin 192) : wO ct gs mom wd sc bi (ix2 p l) = winW mom wd sc bi l G (Row.oddCol p) := by
  have h : wO ct gs mom wd sc bi (ix2 p l) = k1_pay7 (F := Ideal) wd (ix2 p l) * sc (ix2 0 l) + bi (ix2 0 l) - wMult ct gs mom (ix2 0 l) * wG ct gs (ix2 (⟨192 + p.val, by omega⟩ : Fin 384) l) := by
    pointwise [wO, k1_pay12, k1_pay9, k1_pay8]
  rw [h, pay7_code, wMult_at ct gs mom l G hG, hG, Row.colOf_hi]
  rfl

theorem wMin_at : wMin ct gs mom wd sc bi (ix2 0 l) = Row.low (winW mom wd sc bi l G) := by
  have h : wMin ct gs mom wd sc bi (ix2 0 l) = min (Finset.univ.fold min Row.cTop fun p : Fin 192 => wE ct gs mom wd sc bi (ix2 p l)) (Finset.univ.fold min Row.cTop fun p : Fin 192 => wO ct gs mom wd sc bi (ix2 p l)) := by
    pointwise [wMin, k1_pay13, wE, wO]
  rw [h]
  simp only [wE_at ct gs mom wd sc bi l G hG, wO_at ct gs mom wd sc bi l G hG]
  exact Row.low_halves _

theorem wRng_at : wRng ct gs mom wd sc bi (ix2 0 l) = Row.high (winW mom wd sc bi l G) - Row.low (winW mom wd sc bi l G) := by
  have h : wRng ct gs mom wd sc bi (ix2 0 l) = max (Finset.univ.fold max Row.cBot fun p : Fin 192 => wE ct gs mom wd sc bi (ix2 p l)) (Finset.univ.fold max Row.cBot fun p : Fin 192 => wO ct gs mom wd sc bi (ix2 p l)) - wMin ct gs mom wd sc bi (ix2 0 l) := by
    pointwise [wRng, k1_pay14, wE, wO, wMin]
  rw [h, wMin_at ct gs mom wd sc bi l G hG]
  simp only [wE_at ct gs mom wd sc bi l G hG, wO_at ct gs mom wd sc bi l G hG]
  rw [Row.high_halves]

theorem wInv_at : wInv ct gs mom wd sc bi (ix2 0 l) = Row.inv (winW mom wd sc bi l G) := by
  have h : wInv ct gs mom wd sc bi (ix2 0 l) = Ideal.div Row.c15 (wRng ct gs mom wd sc bi (ix2 0 l) + Row.cEps) := by
    pointwise [wInv, k1_pay15, wRng]
  rw [h, wRng_at ct gs mom wd sc bi l G hG]
  rfl

theorem wScale_at : wScale ct gs mom wd sc bi (ix2 0 l)
    = Ideal.div (Row.high (winW mom wd sc bi l G) - Row.low (winW mom wd sc bi l G)) Row.c15 := by
  have h : wScale ct gs mom wd sc bi (ix2 0 l) = Ideal.div (wRng ct gs mom wd sc bi (ix2 0 l)) Row.c15 := by
    pointwise [wScale, k1_pay20]
  rw [h, wRng_at ct gs mom wd sc bi l G hG]

theorem wCodes_at (p : Fin 192) : wCodes ct gs mom wd sc bi re ro (ix2 p l)
    = BitVec.setWidth 8 (Ideal.fptosi 32 (Row.code (winW mom wd sc bi l G) (Row.rnd (re (ix2 p l))) (Row.evenCol p))
        ||| (Ideal.fptosi 32 (Row.code (winW mom wd sc bi l G) (Row.rnd (ro (ix2 p l))) (Row.oddCol p))) <<< 4) := by
  have h : wCodes ct gs mom wd sc bi re ro (ix2 p l) = BitVec.setWidth 8 (Ideal.fptosi 32
      (Row.clip ((wE ct gs mom wd sc bi (ix2 p l) - wMin ct gs mom wd sc bi (ix2 0 l)) * wInv ct gs mom wd sc bi (ix2 0 l)
          + (((IntOp.shrui .vector (re (ix2 p l)) 8#32).toInt : ℝ) : EReal) * Ideal.ofBits .f32 864026624#32)
        + Row.c16 * Row.clip ((wO ct gs mom wd sc bi (ix2 p l) - wMin ct gs mom wd sc bi (ix2 0 l)) * wInv ct gs mom wd sc bi (ix2 0 l)
          + (((IntOp.shrui .vector (ro (ix2 p l)) 8#32).toInt : ℝ) : EReal) * Ideal.ofBits .f32 864026624#32))) := by
    unfold Row.clip
    pointwise [wCodes, k1_pay17, k1_pay18, k1_pay19]
    rfl
  rw [h, wE_at ct gs mom wd sc bi l G hG, wO_at ct gs mom wd sc bi l G hG, wMin_at ct gs mom wd sc bi l G hG, wInv_at ct gs mom wd sc bi l G hG,
    Row.pack, Row.shrui_vector, Row.shrui_vector, Row.shift8_toInt, Row.shift8_toInt, Int.cast_natCast, Int.cast_natCast]
  rfl

end

/-- The random words of the even columns, -/
theorem rEven_at (rnd : Vec Ideal S128x384 .i32) (p : Fin 192) (l : Fin 128) : rEven rnd (ix2 p l) = rnd (ix2 l (Row.evenCol p)) := by
  pointwise [rEven, k1_pay16, boxE]
/-- and of the odd ones. -/
theorem rOdd_at (rnd : Vec Ideal S128x384 .i32) (p : Fin 192) (l : Fin 128) : rOdd rnd (ix2 p l) = rnd (ix2 l (Row.oddCol p)) := by
  pointwise [rOdd, k1_pay16, boxO]

end Cert.KernelIdeal.Gen
-- ==== Proof.Value.UpdateArrays.lean ====
/-
  Region 1's four arrays after the run, entered with the counts and the split gradients that region 0 leaves: at each
  row the row formulas over the gradients added up in three pieces.
-/
module

public import proofs.«01_k».proof.Proof.Value.CountArrays
public import proofs.«01_k».proof.Proof.Value.WindowAt

@[expose] public section

set_option maxRecDepth 16384

noncomputable section

open Idealize.ShloMosaic Idealize.ShloMosaic.TcCoe Idealize.SL.Sem
open Idealize.ShloMosaic.Pipeline (Dat)

namespace Cert.KernelIdeal.Gen

open Cert.KernelIdeal

/-- Where each window's block stands, at every grid point. -/
theorem idx1 : ∀ t : Fin cfg1.N, win1_0.index t = ![0, 0] ∧ win1_1.index t = ![t.val, 0, 0] ∧ win1_2.index t = ![t.val, 0, 0]
    ∧ win1_3.index t = ![t.val, 0] ∧ win1_4.index t = ![0, t.val] ∧ win1_5.index t = ![0, t.val] ∧ win1_6.index t = ![0, t.val]
    ∧ win1_7.index t = ![0, t.val] ∧ win1_8.index t = ![0, t.val] ∧ win1_9.index t = ![0, t.val] ∧ win1_10.index t = ![0, t.val] :=
  (by decide +kernel : ∀ t : Fin grid1.N, _)

/-! ## One row -/

section Row
variable (slots : Vec Ideal S320x256 .i32) (g : Vec Ideal S384x320 .f32) (words : Vec Ideal S160x48x128 .i32) (sc bi mom : Vec Ideal S1x20480 .f32)
  (rnd : Vec Ideal S20480x384 .i32)

/-- The gradients of row `u` added up in three pieces, at place `p` of the transposed gradients. -/
abbrev gSum (u : Fin 20480) (p : Fin 384) : EReal :=
  Row.sumSplit (fun (b : Fin 320) (s : Fin 256) => (slots (ix2 b s)).toInt = ((u.val : ℕ) : ℤ)) fun b => g (ix2 p b)

/-- The place at which a column stands when the even ones come first. -/
def placeOfCol (d : Fin 384) : Fin 384 := ⟨d.val / 2 + 192 * (d.val % 2), by omega⟩

theorem placeOfCol_colOf (p : Fin 384) : placeOfCol (Row.colOf p) = p := by
  unfold placeOfCol Row.colOf
  by_cases h : p.val < 192
  · rw [dif_pos h]; exact Fin.ext (by show 2 * p.val / 2 + 192 * (2 * p.val % 2) = p.val; omega)
  · rw [dif_neg h]
    exact Fin.ext (by show (1 + 2 * (p.val - 192)) / 2 + 192 * ((1 + 2 * (p.val - 192)) % 2) = p.val; omega)

/-- The gradients of row `u` added up in three pieces, column by column. -/
abbrev kerG (u : Fin 20480) (d : Fin 384) : EReal := gSum slots g u (placeOfCol d)

/-- The words of a row. -/
abbrev kerWords (u : Fin 20480) : Fin 48 → BitVec 32 :=
  fun j => words (ix3 (⟨u.val / 128, by omega⟩ : Fin 160) j (⟨u.val % 128, by omega⟩ : Fin 128))

/-- The new values of a row. -/
abbrev kerW (u : Fin 20480) : Fin 384 → EReal :=
  Row.newVal (Row.codeOf (kerWords words u)) (sc (ix2 0 u)) (bi (ix2 0 u)) (mom (ix2 0 u)) (kerG slots g u)

/-- A window's reads at lane `l` are row `u`'s. -/
structure RowAt (ctw : Vec Ideal S1x320x128 .bf16) (gsw : Vec Ideal S384x960 .bf16) (momw : Vec Ideal S1x128 .f32) (wdw : Vec Ideal S1x48x128 .i32)
    (scw biw : Vec Ideal S1x128 .f32) (u : Fin 20480) (l : Fin 128) : Prop where
  ct : ∀ b : Fin 320, ctw (ix3 0 b l) = bagCount (fun s => slots (ix2 b s)) u.val
  gs : ∀ (p : Fin 384) (x : Fin 960), gsw (ix2 p x) = split3 (fun b => g (ix2 p b)) x
  mom : momw (ix2 0 l) = mom (ix2 0 u)
  wd : ∀ j : Fin 48, wdw (ix3 0 j l) = kerWords words u j
  sc : scw (ix2 0 l) = sc (ix2 0 u)
  bi : biw (ix2 0 l) = bi (ix2 0 u)

variable {slots g words sc bi mom}
variable {ctw : Vec Ideal S1x320x128 .bf16} {gsw : Vec Ideal S384x960 .bf16} {momw : Vec Ideal S1x128 .f32} {wdw : Vec Ideal S1x48x128 .i32}
    {scw biw : Vec Ideal S1x128 .f32} {u : Fin 20480} {l : Fin 128}
  (H : RowAt slots g words sc bi mom ctw gsw momw wdw scw biw u l)
include H

/-- The window's product at a column of its transposed gradients is the sum in three pieces. -/
theorem RowAt.wG (p : Fin 384) : wG ctw gsw (ix2 p l) = kerG slots g u (Row.colOf p) := by
  have h : Gen.wG ctw gsw (ix2 p l) = ∑ x : Fin 960, gsw (ix2 p x)
      * (if h : x.val < 320 then ctw (ix3 0 ⟨x.val, h⟩ l)
        else if h' : x.val - 320 < 320 then ctw (ix3 0 ⟨x.val - 320, h'⟩ l) else ctw (ix3 0 ⟨x.val - 320 - 320, by omega⟩ l)) := by
    pointwise [Gen.wG, k1_pay3]
  rw [h]
  simp only [H.gs]
  unfold kerG
  rw [placeOfCol_colOf]
  refine sum_split _ (fun b => g (ix2 p b)) _ (fun b => ?_) (fun b => ?_) (fun b => ?_)
  · exact (dif_pos b.isLt).trans (H.ct b)
  · refine (dif_neg (by show ¬ 320 + b.val < 320; omega)).trans ((dif_pos (by show 320 + b.val - 320 < 320; omega)).trans ?_)
    have e : (⟨320 + b.val - 320, by omega⟩ : Fin 320) = b := Fin.ext (by show 320 + b.val - 320 = b.val; omega)
    exact (congrArg (fun b => ctw (ix3 0 b l)) e).trans (H.ct b)
  · refine (dif_neg (by show ¬ 640 + b.val < 320; omega)).trans ((dif_neg (by show ¬ 640 + b.val - 320 < 320; omega)).trans ?_)
    have e : (⟨640 + b.val - 320 - 320, by omega⟩ : Fin 320) = b := Fin.ext (by show 640 + b.val - 320 - 320 = b.val; omega)
    exact (congrArg (fun b => ctw (ix3 0 b l)) e).trans (H.ct b)

theorem RowAt.winW : winW momw wdw scw biw l (kerG slots g u) = kerW slots g words sc bi mom u := by
  unfold Gen.winW kerW
  rw [H.mom, H.sc, H.bi, funext H.wd]

theorem RowAt.state : wState ctw gsw momw (ix2 0 l) = Row.state (kerG slots g u) (mom (ix2 0 u)) := by
  rw [wState_at ctw gsw momw l _ H.wG, H.mom]
theorem RowAt.low : wMin ctw gsw momw wdw scw biw (ix2 0 l) = Row.low (kerW slots g words sc bi mom u) := by
  rw [wMin_at ctw gsw momw wdw scw biw l _ H.wG, H.winW]
theorem RowAt.scale : wScale ctw gsw momw wdw scw biw (ix2 0 l)
    = Ideal.div (Row.high (kerW slots g words sc bi mom u) - Row.low (kerW slots g words sc bi mom u)) Row.c15 := by
  rw [wScale_at ctw gsw momw wdw scw biw l _ H.wG, H.winW]
theorem RowAt.codes (rndw : Vec Ideal S128x384 .i32) (hr : ∀ d : Fin 384, rndw (ix2 l d) = rnd (ix2 u d)) (p : Fin 192) :
    wCodes ctw gsw momw wdw scw biw (rEven rndw) (rOdd rndw) (ix2 p l)
      = BitVec.setWidth 8 (Ideal.fptosi 32 (Row.code (kerW slots g words sc bi mom u) (Row.rnd (rnd (ix2 u (Row.evenCol p)))) (Row.evenCol p))
        ||| (Ideal.fptosi 32 (Row.code (kerW slots g words sc bi mom u) (Row.rnd (rnd (ix2 u (Row.oddCol p)))) (Row.oddCol p))) <<< 4) := by
  rw [wCodes_at ctw gsw momw wdw scw biw _ _ l _ H.wG, H.winW, rEven_at, rOdd_at, hr, hr]

end Row

/-! ## The arrays -/

/-- The new accumulators, -/
def stateArr (slots : Vec Ideal S320x256 .i32) (g : Vec Ideal S384x320 .f32) (mom : Vec Ideal S1x20480 .f32) : Vec Ideal S1x20480 .f32 :=
  fun j => Row.state (kerG slots g ⟨(j 1).val, (j 1).isLt⟩) (mom (ix2 0 ⟨(j 1).val, (j 1).isLt⟩))
/-- the new biases, -/
def lowArr (slots : Vec Ideal S320x256 .i32) (g : Vec Ideal S384x320 .f32) (words : Vec Ideal S160x48x128 .i32) (sc bi mom : Vec Ideal S1x20480 .f32) :
    Vec Ideal S1x20480 .f32 :=
  fun j => Row.low (kerW slots g words sc bi mom ⟨(j 1).val, (j 1).isLt⟩)
/-- the new scales, -/
def scaleArr (slots : Vec Ideal S320x256 .i32) (g : Vec Ideal S384x320 .f32) (words : Vec Ideal S160x48x128 .i32) (sc bi mom : Vec Ideal S1x20480 .f32) :
    Vec Ideal S1x20480 .f32 :=
  fun j => Ideal.div (Row.high (kerW slots g words sc bi mom ⟨(j 1).val, (j 1).isLt⟩) - Row.low (kerW slots g words sc bi mom ⟨(j 1).val, (j 1).isLt⟩)) Row.c15
/-- the packed codes of row `u` at pair `p`, -/
abbrev codeAt (slots : Vec Ideal S320x256 .i32) (g : Vec Ideal S384x320 .f32) (words : Vec Ideal S160x48x128 .i32) (sc bi mom : Vec Ideal S1x20480 .f32)
    (rnd : Vec Ideal S20480x384 .i32) (u : Fin 20480) (p : Fin 192) : BitVec 8 :=
  BitVec.setWidth 8 (Ideal.fptosi 32 (Row.code (kerW slots g words sc bi mom u) (Row.rnd (rnd (ix2 u (Row.evenCol p)))) (Row.evenCol p))
        ||| (Ideal.fptosi 32 (Row.code (kerW slots g words sc bi mom u) (Row.rnd (rnd (ix2 u (Row.oddCol p)))) (Row.oddCol p))) <<< 4)
/-- and their array, transposed. -/
def codesArr (slots : Vec Ideal S320x256 .i32) (g : Vec Ideal S384x320 .f32) (words : Vec Ideal S160x48x128 .i32) (sc bi mom : Vec Ideal S1x20480 .f32)
    (rnd : Vec Ideal S20480x384 .i32) : Vec Ideal S192x20480 .i8 :=
  fun j => codeAt slots g words sc bi mom rnd ⟨(j 1).val, (j 1).isLt⟩ ⟨(j 0).val, (j 0).isLt⟩

variable (V : (c : Dev nD) → (b : Ref sig .tc) → Buf (Elt Ideal) ((c : Thread nD τ).loc b))

/-- Window `v` of grid point `t`, at lane `l`, reads row `512 t + 128 v + l`. -/
theorem rowAt (c : Dev nD) (slots : Vec Ideal S320x256 .i32) (g : Vec Ideal S384x320 .f32)
    (hct : V c main_v4_0 = ctOf slots) (hgs : V c main_v4_1 = gsOf g) (t : Fin cfg1.N) (v o : ℕ) (hv : v < 4) (ho : o = 128 * v) (u : Fin 20480) (l : Fin 128)
    (hu : u.val = 512 * t.val + o + l.val)
    (h1 : ∀ a, ![v, 0, 0] a + ![1, 320, 128] a ≤ S4x320x128.size a) (h2 : ∀ a, ![v, 0, 0] a + ![1, 48, 128] a ≤ S4x48x128.size a)
    (h3 : ∀ a, ![0, o] a + ![1, 128] a ≤ S1x512.size a) :
    RowAt slots g (V c main_arg0) (V c main_v5) (V c main_v6) (V c main_v7)
      (View.ld (iblk1 V c 1 t) (Rect.unit ![v, 0, 0] ![1, 320, 128] h1)) (iblk1 V c 0 t) (View.ld (iblk1 V c 6 t) (Rect.unit ![0, o] ![1, 128] h3))
      (View.ld (iblk1 V c 2 t) (Rect.unit ![v, 0, 0] ![1, 48, 128] h2)) (View.ld (iblk1 V c 4 t) (Rect.unit ![0, o] ![1, 128] h3))
      (View.ld (iblk1 V c 5 t) (Rect.unit ![0, o] ![1, 128] h3)) u l := by
  have ht : t.val < 40 := t.isLt
  constructor
  · intro b
    have e : View.ld (iblk1 V c 1 t) (Rect.unit ![v, 0, 0] ![1, 320, 128] h1) (ix3 0 b l) = V c main_v4_0 (ix3 (⟨4 * t.val + v, by omega⟩ : Fin 160) b l) := by
      pointwise
      blk_ext [iblk1, idx1 t]
    rw [e, hct]
    show bagCount (fun s => slots (ix2 b s)) (128 * (4 * t.val + v) + l.val) = _
    rw [show 128 * (4 * t.val + v) + l.val = u.val by omega]
  · intro p x
    have e : iblk1 V c 0 t (ix2 p x) = V c main_v4_1 (ix2 p x) := by
      blk_ext [iblk1, idx1 t]
    rw [e, hgs]
    rfl
  · pointwise
    blk_ext [iblk1, idx1 t]
  · intro j
    pointwise
    blk_ext [iblk1, idx1 t]
  · pointwise
    blk_ext [iblk1, idx1 t]
  · pointwise
    blk_ext [iblk1, idx1 t]

/-! ### One window's stores are the arrays' rows -/

section Piece
variable {slots : Vec Ideal S320x256 .i32} {g : Vec Ideal S384x320 .f32} {words : Vec Ideal S160x48x128 .i32} {sc bi mom : Vec Ideal S1x20480 .f32}
  {ctw : Vec Ideal S1x320x128 .bf16} {gsw : Vec Ideal S384x960 .bf16} {momw : Vec Ideal S1x128 .f32} {wdw : Vec Ideal S1x48x128 .i32}
  {scw biw : Vec Ideal S1x128 .f32} (n : ℕ)
  (H : ∀ (u : Fin 20480) (l : Fin 128), u.val = n + l.val → RowAt slots g words sc bi mom ctw gsw momw wdw scw biw u l)
include H

theorem state_piece (x : S1x128.Idx) (j : S1x20480.Idx) (hj : (j 1).val = n + (x 1).val) : wState ctw gsw momw x = stateArr slots g mom j := by
  have hx : x = ix2 (0 : Fin 1) (⟨(x 1).val, (x 1).isLt⟩ : Fin 128) := by
    funext a
    match a with
    | ⟨0, _⟩ => exact Fin.ext (by have : (x 0).val < 1 := (x 0).isLt; show (x 0).val = 0; omega)
    | ⟨1, _⟩ => rfl
  rw [hx]
  exact (H ⟨(j 1).val, (j 1).isLt⟩ ⟨(x 1).val, (x 1).isLt⟩ hj).state
theorem low_piece (x : S1x128.Idx) (j : S1x20480.Idx) (hj : (j 1).val = n + (x 1).val) :
    wMin ctw gsw momw wdw scw biw x = lowArr slots g words sc bi mom j := by
  have hx : x = ix2 (0 : Fin 1) (⟨(x 1).val, (x 1).isLt⟩ : Fin 128) := by
    funext a
    match a with
    | ⟨0, _⟩ => exact Fin.ext (by have : (x 0).val < 1 := (x 0).isLt; show (x 0).val = 0; omega)
    | ⟨1, _⟩ => rfl
  rw [hx]
  exact (H ⟨(j 1).val, (j 1).isLt⟩ ⟨(x 1).val, (x 1).isLt⟩ hj).low
theorem scale_piece (x : S1x128.Idx) (j : S1x20480.Idx) (hj : (j 1).val = n + (x 1).val) :
    wScale ctw gsw momw wdw scw biw x = scaleArr slots g words sc bi mom j := by
  have hx : x = ix2 (0 : Fin 1) (⟨(x 1).val, (x 1).isLt⟩ : Fin 128) := by
    funext a
    match a with
    | ⟨0, _⟩ => exact Fin.ext (by have : (x 0).val < 1 := (x 0).isLt; show (x 0).val = 0; omega)
    | ⟨1, _⟩ => rfl
  rw [hx]
  exact (H ⟨(j 1).val, (j 1).isLt⟩ ⟨(x 1).val, (x 1).isLt⟩ hj).scale
theorem codes_piece (rnd : Vec Ideal S20480x384 .i32) (rndw : Vec Ideal S128x384 .i32)
    (hr : ∀ (u : Fin 20480) (l : Fin 128), u.val = n + l.val → ∀ d : Fin 384, rndw (ix2 l d) = rnd (ix2 u d))
    (x : S192x128.Idx) (j : S192x20480.Idx) (hj0 : (j 0).val = (x 0).val) (hj : (j 1).val = n + (x 1).val) :
    wCodes ctw gsw momw wdw scw biw (rEven rndw) (rOdd rndw) x = codesArr slots g words sc bi mom rnd j := by
  have hx : x = ix2 (⟨(j 0).val, (j 0).isLt⟩ : Fin 192) (⟨(x 1).val, (x 1).isLt⟩ : Fin 128) := by
    funext a
    match a with
    | ⟨0, _⟩ => exact Fin.ext hj0.symm
    | ⟨1, _⟩ => rfl
  rw [hx]
  exact (H ⟨(j 1).val, (j 1).isLt⟩ ⟨(x 1).val, (x 1).isLt⟩ hj).codes rnd rndw (hr _ _ hj) ⟨(j 0).val, (j 0).isLt⟩

end Piece

/-- The random words of window `v` of grid point `t`. -/
theorem rndAt (c : Dev nD) (t : Fin cfg1.N) (o : ℕ) (ho : o + 128 ≤ 512) (h : ∀ a, ![o, 0] a + ![128, 384] a ≤ S512x384.size a)
    (u : Fin 20480) (l : Fin 128) (hu : u.val = 512 * t.val + o + l.val) (d : Fin 384) :
    View.ld (iblk1 V c 3 t) (Rect.unit ![o, 0] ![128, 384] h) (ix2 l d) = V c main_arg6 (ix2 u d) := by
  have ht : t.val < 40 := t.isLt
  pointwise
  blk_ext [iblk1, idx1 t]

section Final
variable (c : Dev nD) (slots : Vec Ideal S320x256 .i32) (g : Vec Ideal S384x320 .f32)
  (hct : V c main_v4_0 = ctOf slots) (hgs : V c main_v4_1 = gsOf g)
include hct hgs

/-- The new accumulators after the run. -/
theorem state_final : (dat1 V c).arrAt 10 cfg1.N = stateArr slots g (V c main_v7) := by
  refine (dat1 V c).arrAt_eq_of_covers 10 _ (by decide +kernel) fun t _ y => ?_
  have ht : t.val < 40 := t.isLt
  blk_simp
  rw [after1_10, outs1_10]
  canon_tiles x h
  case piece0 => exact state_piece (512 * t.val + 384) (fun u l hu => rowAt V c slots g hct hgs t 3 384 (by omega) rfl u l hu _ inb_S4x48x128_S1x48x128_3_0_0 _) x _ (by blk_simp [idx1 t] <;> omega)
  case piece1 => exact state_piece (512 * t.val + 256) (fun u l hu => rowAt V c slots g hct hgs t 2 256 (by omega) rfl u l hu _ inb_S4x48x128_S1x48x128_2_0_0 _) x _ (by blk_simp [idx1 t] <;> omega)
  case piece2 => exact state_piece (512 * t.val + 128) (fun u l hu => rowAt V c slots g hct hgs t 1 128 (by omega) rfl u l hu _ inb_S4x48x128_S1x48x128_1_0_0 _) x _ (by blk_simp [idx1 t] <;> omega)
  case piece3 => exact state_piece (512 * t.val + 0) (fun u l hu => rowAt V c slots g hct hgs t 0 0 (by omega) rfl u l hu _ inb_S4x48x128_S1x48x128_0_0_0 _) x _ (by blk_simp [idx1 t] <;> omega)

/-- The new biases after the run. -/
theorem low_final : (dat1 V c).arrAt 9 cfg1.N = lowArr slots g (V c main_arg0) (V c main_v5) (V c main_v6) (V c main_v7) := by
  refine (dat1 V c).arrAt_eq_of_covers 9 _ (by decide +kernel) fun t _ y => ?_
  have ht : t.val < 40 := t.isLt
  blk_simp
  rw [after1_9, outs1_9]
  canon_tiles x h
  case piece0 => exact low_piece (512 * t.val + 384) (fun u l hu => rowAt V c slots g hct hgs t 3 384 (by omega) rfl u l hu _ _ _) x _ (by blk_simp [idx1 t] <;> omega)
  case piece1 => exact low_piece (512 * t.val + 256) (fun u l hu => rowAt V c slots g hct hgs t 2 256 (by omega) rfl u l hu _ _ _) x _ (by blk_simp [idx1 t] <;> omega)
  case piece2 => exact low_piece (512 * t.val + 128) (fun u l hu => rowAt V c slots g hct hgs t 1 128 (by omega) rfl u l hu _ _ _) x _ (by blk_simp [idx1 t] <;> omega)
  case piece3 => exact low_piece (512 * t.val + 0) (fun u l hu => rowAt V c slots g hct hgs t 0 0 (by omega) rfl u l hu _ _ _) x _ (by blk_simp [idx1 t] <;> omega)

/-- The new scales after the run. -/
theorem scale_final : (dat1 V c).arrAt 8 cfg1.N = scaleArr slots g (V c main_arg0) (V c main_v5) (V c main_v6) (V c main_v7) := by
  refine (dat1 V c).arrAt_eq_of_covers 8 _ (by decide +kernel) fun t _ y => ?_
  have ht : t.val < 40 := t.isLt
  blk_simp
  rw [after1_8, outs1_8]
  canon_tiles x h
  case piece0 => exact scale_piece (512 * t.val + 384) (fun u l hu => rowAt V c slots g hct hgs t 3 384 (by omega) rfl u l hu _ _ _) x _ (by blk_simp [idx1 t] <;> omega)
  case piece1 => exact scale_piece (512 * t.val + 256) (fun u l hu => rowAt V c slots g hct hgs t 2 256 (by omega) rfl u l hu _ _ _) x _ (by blk_simp [idx1 t] <;> omega)
  case piece2 => exact scale_piece (512 * t.val + 128) (fun u l hu => rowAt V c slots g hct hgs t 1 128 (by omega) rfl u l hu _ _ _) x _ (by blk_simp [idx1 t] <;> omega)
  case piece3 => exact scale_piece (512 * t.val + 0) (fun u l hu => rowAt V c slots g hct hgs t 0 0 (by omega) rfl u l hu _ _ _) x _ (by blk_simp [idx1 t] <;> omega)

/-- The packed codes after the run, transposed. -/
theorem codes_final : (dat1 V c).arrAt 7 cfg1.N = codesArr slots g (V c main_arg0) (V c main_v5) (V c main_v6) (V c main_v7) (V c main_arg6) := by
  refine (dat1 V c).arrAt_eq_of_covers 7 _ (by decide +kernel) fun t _ y => ?_
  have ht : t.val < 40 := t.isLt
  blk_simp
  rw [after1_7, outs1_7]
  canon_tiles x h
  case piece0 => exact codes_piece (512 * t.val + 384) (fun u l hu => rowAt V c slots g hct hgs t 3 384 (by omega) rfl u l hu _ _ _) _ _ (fun u l hu d => rndAt V c t 384 (by omega) _ u l hu d) x _ (by blk_simp [idx1 t] <;> omega) (by blk_simp [idx1 t] <;> omega)
  case piece1 => exact codes_piece (512 * t.val + 256) (fun u l hu => rowAt V c slots g hct hgs t 2 256 (by omega) rfl u l hu _ _ _) _ _ (fun u l hu d => rndAt V c t 256 (by omega) _ u l hu d) x _ (by blk_simp [idx1 t] <;> omega) (by blk_simp [idx1 t] <;> omega)
  case piece2 => exact codes_piece (512 * t.val + 128) (fun u l hu => rowAt V c slots g hct hgs t 1 128 (by omega) rfl u l hu _ _ _) _ _ (fun u l hu d => rndAt V c t 128 (by omega) _ u l hu d) x _ (by blk_simp [idx1 t] <;> omega) (by blk_simp [idx1 t] <;> omega)
  case piece3 => exact codes_piece (512 * t.val + 0) (fun u l hu => rowAt V c slots g hct hgs t 0 0 (by omega) rfl u l hu _ _ _) _ _ (fun u l hu d => rndAt V c t 0 (by omega) _ u l hu d) x _ (by blk_simp [idx1 t] <;> omega) (by blk_simp [idx1 t] <;> omega)

end Final

end Cert.KernelIdeal.Gen
-- ==== Proof.Value.Result.lean ====
/-
  What the program returns: the row formulas at every row, over the gradients added up in three pieces.
-/
module

public import proofs.«01_k».proof.Proof.RunIdeal.Main
public import proofs.«01_k».proof.Proof.Value.UpdateArrays

@[expose] public section

set_option maxRecDepth 16384

noncomputable section

open Idealize.ShloMosaic Idealize.ShloMosaic.TcCoe Idealize.SL.Sem

namespace Cert.KernelIdeal.Gen

open Cert.KernelIdeal

variable (m : (ℓ : Loc nD τ sig) → Buf (Elt Ideal) ℓ) (ρ : Dev nD → PrngReg) (c : Dev nD)

/-- The gradients as the host hands them over: transposed, the even columns first. -/
theorem grads_at (p : Fin 384) (b : Fin 320) :
    (V1 m ρ c main_v3 : Vec Ideal S384x320 .f32) (ix2 p b) = (m ((c : Thread nD τ).loc main_arg5) : Vec Ideal S320x384 .f32) (ix2 b (Row.colOf p)) := by
  have h : (V1 m ρ c main_v3 : Vec Ideal S384x320 .f32) = transpose S384x320 [1, 0] (concatenate S320x384 1
      [⟨S320x192, Host.slice S320x192 ![0, 0] ![1, 2] (m ((c : Thread nD τ).loc main_arg5)) slicesBy_S320x384_S320x192_0s1_0s2⟩,
       ⟨S320x192, Host.slice S320x192 ![0, 1] ![1, 2] (m ((c : Thread nD τ).loc main_arg5)) slicesBy_S320x384_S320x192_0s1_1s2⟩]
      concatenates_S320x192_S320x192_S320x384_d1) transposes_S320x384_S384x320_1_0 := by
    unfold_abbrev_sides
    after_results
  rw [h]
  generalize m ((c : Thread nD τ).loc main_arg5) = x
  unfold Row.colOf
  by_cases hp : p.val < 192
  · rw [dif_pos hp]
    pointwise []
    rw [dif_pos hp]
  · rw [dif_neg hp]
    pointwise []
    rw [dif_neg hp]

theorem counts_in : (V3 m ρ c main_v4_0 : Vec Ideal S160x320x128 .bf16) = ctOf (m ((c : Thread nD τ).loc main_arg4)) := by
  refine (W3_of m ρ c main_v4_0 (by decide)).trans ((W2_arr m ρ c 2).trans ((ct_final (V1 m ρ) c).trans ?_))
  exact congrArg ctOf (W1_args m ρ c main_arg4 (by decide))
theorem split_in : (V3 m ρ c main_v4_1 : Vec Ideal S384x960 .bf16) = gsOf (V1 m ρ c main_v3) :=
  (W3_of m ρ c main_v4_1 (by decide)).trans ((W2_arr m ρ c 3).trans (gs_final (V1 m ρ) c))

/-- The scales, the biases and the accumulators as the host hands them over: one row each. -/
theorem scale_in : (V3 m ρ c main_v5 : Vec Ideal S1x20480 .f32) = shapeCast S1x20480 (m ((c : Thread nD τ).loc main_arg1)) shapeCasts_S20480_S1x20480 := by
  refine Eq.trans ?_ (congrArg (fun x : Vec Ideal S20480 .f32 => shapeCast S1x20480 x shapeCasts_S20480_S1x20480) (W2_args m ρ c main_arg1 (by decide)))
  unfold_abbrev_sides
  after_results
  rfl
theorem bias_in : (V3 m ρ c main_v6 : Vec Ideal S1x20480 .f32) = shapeCast S1x20480 (m ((c : Thread nD τ).loc main_arg2)) shapeCasts_S20480_S1x20480 := by
  refine Eq.trans ?_ (congrArg (fun x : Vec Ideal S20480 .f32 => shapeCast S1x20480 x shapeCasts_S20480_S1x20480) (W2_args m ρ c main_arg2 (by decide)))
  unfold_abbrev_sides
  after_results
  rfl
theorem mom_in : (V3 m ρ c main_v7 : Vec Ideal S1x20480 .f32) = shapeCast S1x20480 (m ((c : Thread nD τ).loc main_arg3)) shapeCasts_S20480_S1x20480 := by
  refine Eq.trans ?_ (congrArg (fun x : Vec Ideal S20480 .f32 => shapeCast S1x20480 x shapeCasts_S20480_S1x20480) (W2_args m ρ c main_arg3 (by decide)))
  unfold_abbrev_sides
  after_results
  rfl

/-- A vector laid out as one row, at a place, -/
theorem row_at (x : Vec Ideal S20480 .f32) (u : Fin 20480) : shapeCast S1x20480 x shapeCasts_S20480_S1x20480 (ix2 0 u) = x (ix1 u) := by
  pointwise []
/-- and one row as a vector. -/
theorem vec_at (x : Vec Ideal S1x20480 .f32) (u : Fin 20480) : shapeCast S20480 x shapeCasts_S1x20480_S20480 (ix1 u) = x (ix2 0 u) := by
  pointwise []

theorem colOf_placeOfCol (d : Fin 384) : Row.colOf (placeOfCol d) = d := by
  obtain ⟨p, rfl⟩ := Row.colOf_bijective.2 d
  rw [placeOfCol_colOf]

/-! ## The results -/

/-- The program's arguments, as arrays. -/
abbrev aWords : Vec Ideal S160x48x128 .i32 := m ((c : Thread nD τ).loc main_arg0)
abbrev aScale : Vec Ideal S20480 .f32 := m ((c : Thread nD τ).loc main_arg1)
abbrev aBias : Vec Ideal S20480 .f32 := m ((c : Thread nD τ).loc main_arg2)
abbrev aMom : Vec Ideal S20480 .f32 := m ((c : Thread nD τ).loc main_arg3)
abbrev aSlots : Vec Ideal S320x256 .i32 := m ((c : Thread nD τ).loc main_arg4)
abbrev aGrad : Vec Ideal S320x384 .f32 := m ((c : Thread nD τ).loc main_arg5)
abbrev aRnd : Vec Ideal S20480x384 .i32 := m ((c : Thread nD τ).loc main_arg6)

/-- The gradients of row `u` added up in three pieces, from the arguments. -/
abbrev argG (u : Fin 20480) (d : Fin 384) : EReal :=
  Row.sumSplit (fun (b : Fin 320) (s : Fin 256) => (aSlots m c (ix2 b s)).toInt = ((u.val : ℕ) : ℤ)) fun b => aGrad m c (ix2 b d)
/-- The new values of row `u`, from the arguments. -/
abbrev argW (u : Fin 20480) : Fin 384 → EReal :=
  Row.newVal (Row.codeOf (kerWords (aWords m c) u)) (aScale m c (ix1 u)) (aBias m c (ix1 u)) (aMom m c (ix1 u)) (argG m c u)

theorem kerG_arg (u : Fin 20480) : kerG (aSlots m c) (V1 m ρ c main_v3) u = argG m c u := by
  funext d
  unfold kerG gSum argG
  congr 1
  funext b
  exact (grads_at m ρ c _ b).trans (by rw [colOf_placeOfCol])

theorem mom_at (u : Fin 20480) : (V3 m ρ c main_v7 : Vec Ideal S1x20480 .f32) (ix2 0 u) = aMom m c (ix1 u) :=
  (congrFun (mom_in m ρ c) _).trans (row_at _ u)
theorem scale_at (u : Fin 20480) : (V3 m ρ c main_v5 : Vec Ideal S1x20480 .f32) (ix2 0 u) = aScale m c (ix1 u) :=
  (congrFun (scale_in m ρ c) _).trans (row_at _ u)
theorem bias_at (u : Fin 20480) : (V3 m ρ c main_v6 : Vec Ideal S1x20480 .f32) (ix2 0 u) = aBias m c (ix1 u) :=
  (congrFun (bias_in m ρ c) _).trans (row_at _ u)
theorem words_in : (V3 m ρ c main_arg0 : Vec Ideal S160x48x128 .i32) = aWords m c := W3_args m ρ c main_arg0 (by decide)
theorem rnd_in : (V3 m ρ c main_arg6 : Vec Ideal S20480x384 .i32) = aRnd m c := W3_args m ρ c main_arg6 (by decide)

theorem kerW_arg (u : Fin 20480) :
    kerW (aSlots m c) (V1 m ρ c main_v3) (V3 m ρ c main_arg0) (V3 m ρ c main_v5) (V3 m ρ c main_v6) (V3 m ρ c main_v7) u = argW m c u := by
  unfold kerW argW
  rw [kerG_arg, mom_at, scale_at, bias_at, words_in]

/-- The new accumulator of row `u`. -/
theorem out_state (u : Fin 20480) : (W5 m ρ c (Proc.devRef .tc main_v12) : Vec Ideal S20480 .f32) (ix1 u) = Row.state (argG m c u) (aMom m c (ix1 u)) := by
  have h : (W5 m ρ c (Proc.devRef .tc main_v12) : Vec Ideal S20480 .f32) = shapeCast S20480 (W4 m ρ c (Proc.devRef .tc main_v8_3)) shapeCasts_S1x20480_S20480 := by
    unfold_abbrev_sides
    after_results
    rfl
  rw [h, vec_at]
  refine (congrFun ((W4_arr m ρ c 10).trans (state_final (V3 m ρ) c _ _ (counts_in m ρ c) (split_in m ρ c))) (ix2 0 u)).trans ?_
  show Row.state (kerG (aSlots m c) (V1 m ρ c main_v3) u) ((V3 m ρ c main_v7 : Vec Ideal S1x20480 .f32) (ix2 0 u)) = _
  rw [kerG_arg, mom_at]
/-- The new bias of row `u`. -/
theorem out_low (u : Fin 20480) : (W5 m ρ c (Proc.devRef .tc main_v11) : Vec Ideal S20480 .f32) (ix1 u) = Row.low (argW m c u) := by
  have h : (W5 m ρ c (Proc.devRef .tc main_v11) : Vec Ideal S20480 .f32) = shapeCast S20480 (W4 m ρ c (Proc.devRef .tc main_v8_2)) shapeCasts_S1x20480_S20480 := by
    unfold_abbrev_sides
    after_results
    rfl
  rw [h, vec_at]
  refine (congrFun ((W4_arr m ρ c 9).trans (low_final (V3 m ρ) c _ _ (counts_in m ρ c) (split_in m ρ c))) (ix2 0 u)).trans ?_
  exact congrArg Row.low (kerW_arg m ρ c u)
/-- The new scale of row `u`. -/
theorem out_scale (u : Fin 20480) : (W5 m ρ c (Proc.devRef .tc main_v10) : Vec Ideal S20480 .f32) (ix1 u)
    = Ideal.div (Row.high (argW m c u) - Row.low (argW m c u)) Row.c15 := by
  have h : (W5 m ρ c (Proc.devRef .tc main_v10) : Vec Ideal S20480 .f32) = shapeCast S20480 (W4 m ρ c (Proc.devRef .tc main_v8_1)) shapeCasts_S1x20480_S20480 := by
    unfold_abbrev_sides
    after_results
    rfl
  rw [h, vec_at]
  refine (congrFun ((W4_arr m ρ c 8).trans (scale_final (V3 m ρ) c _ _ (counts_in m ρ c) (split_in m ρ c))) (ix2 0 u)).trans ?_
  exact congrArg (fun W => Ideal.div (Row.high W - Row.low W) Row.c15) (kerW_arg m ρ c u)
/-- The packed codes of row `u`. -/
theorem out_codes (u : Fin 20480) (p : Fin 192) : (W5 m ρ c (Proc.devRef .tc main_v9) : Vec Ideal S20480x192 .i8) (ix2 u p)
    = BitVec.setWidth 8 (Ideal.fptosi 32 (Row.code (argW m c u) (Row.rnd (aRnd m c (ix2 u (Row.evenCol p)))) (Row.evenCol p))
        ||| (Ideal.fptosi 32 (Row.code (argW m c u) (Row.rnd (aRnd m c (ix2 u (Row.oddCol p)))) (Row.oddCol p))) <<< 4) := by
  have h : (W5 m ρ c (Proc.devRef .tc main_v9) : Vec Ideal S20480x192 .i8) = transpose S20480x192 [1, 0] (W4 m ρ c (Proc.devRef .tc main_v8_0) : Vec Ideal S192x20480 .i8) transposes_S192x20480_S20480x192_1_0 := by
    unfold_abbrev_sides
    after_results
  have h' : (W5 m ρ c (Proc.devRef .tc main_v9) : Vec Ideal S20480x192 .i8) (ix2 u p) = (W4 m ρ c (Proc.devRef .tc main_v8_0) : Vec Ideal S192x20480 .i8) (ix2 p u) := by
    rw [h]
    generalize (W4 m ρ c (Proc.devRef .tc main_v8_0) : Vec Ideal S192x20480 .i8) = x
    pointwise []
  refine h'.trans ((congrFun ((W4_arr m ρ c 7).trans (codes_final (V3 m ρ) c _ _ (counts_in m ρ c) (split_in m ρ c))) (ix2 p u)).trans ?_)
  show codeAt (aSlots m c) (V1 m ρ c main_v3) (V3 m ρ c main_arg0) (V3 m ρ c main_v5) (V3 m ρ c main_v6) (V3 m ρ c main_v7) (V3 m ρ c main_arg6) u p = _
  unfold codeAt
  rw [kerW_arg, rnd_in]

end Cert.KernelIdeal.Gen
-- ==== Proof.Value.RefCode.lean ====
/-
  The reference's codes, at a row and a column: column `d` of row `u` is half `d % 2` of byte `d / 2` of the row.
-/
module

public import proofs.«01_k».proof.Proof.Gen.ReferenceIdeal.Read
public import proofs.«01_k».proof.Proof.Value.Nibble
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen

variable (x0 : Vec Ideal S160x48x128 .i32)

theorem byte0 (v : Fin 160) (j : Fin 48) (l : Fin 128) :
    val_main_v27 (F := Ideal) x0 (ix4 v j l 0) = IntOp.andi (IntOp.shrsi .host (x0 (ix3 v j l)) (BitVec.ofNat 32 (8 * 0))) 255#32 := by
  pointwise [val_main_v27, val_main_v23, val_main_v10, val_main_v9, val_main_c_0, val_main_v8, val_main_v7, val_main_c]
theorem byte1 (v : Fin 160) (j : Fin 48) (l : Fin 128) :
    val_main_v27 (F := Ideal) x0 (ix4 v j l 1) = IntOp.andi (IntOp.shrsi .host (x0 (ix3 v j l)) (BitVec.ofNat 32 (8 * 1))) 255#32 := by
  pointwise [val_main_v27, val_main_v24, val_main_v14, val_main_v13, val_main_c_2, val_main_v12, val_main_v11, val_main_c_1]
theorem byte2 (v : Fin 160) (j : Fin 48) (l : Fin 128) :
    val_main_v27 (F := Ideal) x0 (ix4 v j l 2) = IntOp.andi (IntOp.shrsi .host (x0 (ix3 v j l)) (BitVec.ofNat 32 (8 * 2))) 255#32 := by
  pointwise [val_main_v27, val_main_v25, val_main_v18, val_main_v17, val_main_c_4, val_main_v16, val_main_v15, val_main_c_3]
theorem byte3 (v : Fin 160) (j : Fin 48) (l : Fin 128) :
    val_main_v27 (F := Ideal) x0 (ix4 v j l 3) = IntOp.andi (IntOp.shrsi .host (x0 (ix3 v j l)) (BitVec.ofNat 32 (8 * 3))) 255#32 := by
  pointwise [val_main_v27, val_main_v26, val_main_v22, val_main_v21, val_main_c_6, val_main_v20, val_main_v19, val_main_c_5]

/-- Byte `k` of a word. -/
theorem byteAt (v : Fin 160) (j : Fin 48) (l : Fin 128) (k : Fin 4) :
    val_main_v27 (F := Ideal) x0 (ix4 v j l k) = IntOp.andi (IntOp.shrsi .host (x0 (ix3 v j l)) (BitVec.ofNat 32 (8 * k.val))) 255#32 := by
  match k with
  | ⟨0, _⟩ => exact byte0 x0 v j l
  | ⟨1, _⟩ => exact byte1 x0 v j l
  | ⟨2, _⟩ => exact byte2 x0 v j l
  | ⟨3, _⟩ => exact byte3 x0 v j l

/-- The words of a row. -/
abbrev wordsOf (u : Fin 20480) : Fin 48 → BitVec 32 := fun j => x0 (ix3 (⟨u.val / 128, by omega⟩ : Fin 160) j (⟨u.val % 128, by omega⟩ : Fin 128))

theorem v29_at (u : Fin 20480) (p : Fin 192) : val_main_v29 (F := Ideal) x0 (ix2 u p)
    = val_main_v27 (F := Ideal) x0 (ix4 (⟨u.val / 128, by omega⟩ : Fin 160) (⟨p.val / 4, by omega⟩ : Fin 48) (⟨u.val % 128, by omega⟩ : Fin 128) (⟨p.val % 4, by omega⟩ : Fin 4)) := by
  pointwise [val_main_v29, val_main_v28]

theorem byte_row (u : Fin 20480) (p : Fin 192) :
    (val_main_v29 (F := Ideal) x0 (ix2 u p)).toNat = (wordsOf x0 u ⟨p.val / 4, by omega⟩).toNat / 2 ^ (8 * (p.val % 4)) % 256 := by
  rw [v29_at, byteAt]
  exact Row.byte_toNat _ _ (Nat.mod_lt _ (by decide))

theorem v36_even (u : Fin 20480) (p : Fin 192) : val_main_v36 (F := Ideal) x0 (ix3 u p 0) = IntOp.andi (val_main_v29 (F := Ideal) x0 (ix2 u p)) 15#32 := by
  pointwise [val_main_v36, val_main_v34, val_main_v31, val_main_v30, val_main_c_7]
theorem v36_odd (u : Fin 20480) (p : Fin 192) : val_main_v36 (F := Ideal) x0 (ix3 u p 1) = IntOp.shrsi .host (val_main_v29 (F := Ideal) x0 (ix2 u p)) 4#32 := by
  pointwise [val_main_v36, val_main_v35, val_main_v33, val_main_v32, val_main_c_8]
theorem v37_at (u : Fin 20480) (d : Fin 384) : val_main_v37 (F := Ideal) x0 (ix2 u d)
    = val_main_v36 (F := Ideal) x0 (ix3 u (⟨d.val / 2, by omega⟩ : Fin 192) (⟨d.val % 2, by omega⟩ : Fin 2)) := by
  pointwise [val_main_v37]

/-- The code of a column, as an integer. -/
theorem v37_toInt (u : Fin 20480) (d : Fin 384) : (val_main_v37 (F := Ideal) x0 (ix2 u d)).toInt
    = ((Row.nibNat (wordsOf x0 u ⟨d.val / 2 / 4, by omega⟩) (d.val / 2 % 4) (d.val % 2) : ℕ) : ℤ) := by
  rw [v37_at]
  have hb := byte_row x0 u (⟨d.val / 2, by omega⟩ : Fin 192)
  have hc : d.val % 2 = 0 ∨ d.val % 2 = 1 := by omega
  unfold Row.nibNat
  rcases hc with h | h
  · have e : (⟨d.val % 2, by omega⟩ : Fin 2) = 0 := Fin.ext h
    rw [e, v36_even, Row.low_ref _ _ hb, h, Nat.mul_zero, Nat.add_zero]
  · have e : (⟨d.val % 2, by omega⟩ : Fin 2) = 1 := Fin.ext h
    rw [e, v36_odd, Row.high_ref _ _ hb, h, Nat.div_div_eq_div_mul, Nat.pow_add]

/-- The code of a column, as a number. -/
theorem v38_at (u : Fin 20480) (d : Fin 384) : val_main_v38 (F := Ideal) x0 (ix2 u d) = Row.codeOf (wordsOf x0 u) d := by
  have : val_main_v38 (F := Ideal) x0 (ix2 u d) = (((val_main_v37 (F := Ideal) x0 (ix2 u d)).toInt : ℝ) : EReal) := rfl
  rw [this, v37_toInt]
  unfold Row.codeOf Row.nib
  rw [Int.cast_natCast]

end Cert.ReferenceIdeal.Read
-- ==== Proof.Value.RefGrad.lean ====
/-
  The reference's summed gradients, at a row and a column: every lookup adds its bag's gradient to the row its slot
  names.
-/
module

public import proofs.«01_k».proof.Proof.Gen.ReferenceIdeal.Read
public import proofs.«01_k».proof.Proof.Value.Row
public import Idealize.ShloMosaic.Lib.Pipeline.ValueKit
public import Idealize.ShloMosaic.Lib.Routing.OpsPair

@[expose] public section

set_option maxRecDepth 16384

noncomputable section

open Idealize.ShloMosaic Idealize.ShloMosaic.TcCoe Idealize.SL.Sem

namespace Cert.ReferenceIdeal.Read

open Cert.ReferenceIdeal Cert.ReferenceIdeal.Gen

/-- Where an update of a row-wise scatter lands: at the row its index word names, in its own column. -/
theorem lands_row {A N T : Nat} (d : ScatterDims (Routing.shape2 A N) (Routing.shape2 T 1) (Routing.shape2 T N)) (huw : d.updateWindowDims = [1])
    (hiw : d.insertedWindowDims = [0]) (hsd : d.scatterDimsToOperandDims = [0]) (hiv : d.indexVectorDim = 1)
    (idx : IVec (Routing.shape2 T 1) 32) (n : Fin T) (e : Fin N) (u : Fin A) (c : Fin N) :
    d.resultIdx? (ValueIdx.ix2 n e) idx = some (ValueIdx.ix2 u c) ↔ (idx (ValueIdx.ix2 n (0 : Fin 1))).toInt = (u.val : ℤ) ∧ e = c := by
  obtain ⟨uw, iw, sd, iv, wf⟩ := d
  dsimp only at huw hiw hsd hiv
  subst huw hiw hsd hiv
  set d : ScatterDims (Routing.shape2 A N) (Routing.shape2 T 1) (Routing.shape2 T N) := ⟨[1], [0], [0], 1, wf⟩ with hd
  have hw0 : d.window (ValueIdx.ix2 n e) 0 = 0 := rfl
  have hw1 : d.window (ValueIdx.ix2 n e) 1 = e.val := rfl
  have hs1 : d.start (ValueIdx.ix2 n e) idx 1 = 0 := rfl
  have hs0 : d.start (ValueIdx.ix2 n e) idx 0 = (idx (ValueIdx.ix2 n (0 : Fin 1))).toInt := by
    unfold ScatterDims.start
    rw [dif_pos (List.mem_singleton.2 rfl)]
    congr 2
    funext b
    match b with
    | ⟨0, _⟩ => rfl
    | ⟨1, _⟩ => rfl
  rw [Routing.resultIdx?_ix2, hw0, hw1, hs0, hs1, Fin.ext_iff]
  omega

/-- The bag of a lookup, -/
abbrev bagOf (n : Fin 81920) : Fin 320 := ⟨n.val / 256, by omega⟩
/-- and its place in the bag. -/
abbrev placeOf (n : Fin 81920) : Fin 256 := ⟨n.val % 256, by omega⟩

theorem upd_apply (x5 : Vec Ideal S320x384 .f32) (n : Fin 81920) (d : Fin 384) :
    val_main_v2 (F := Ideal) x5 (ix2 n d) = x5 (ix2 (bagOf n) d) := by
  pointwise [val_main_v2, val_main_v1, val_main_v0]
theorem idx_apply (x4 : Vec Ideal S320x256 .i32) (n : Fin 81920) :
    val_main_v5 (F := Ideal) x4 (ix2 n (0 : Fin 1)) = x4 (ix2 (bagOf n) (placeOf n)) := by
  pointwise [val_main_v5, val_main_v3]
theorem zero_apply (u : Fin 20480) (d : Fin 384) : val_main_v4 (F := Ideal) (ix2 u d) = 0 := by
  pointwise [val_main_v4, val_main_cst]

/-- A sum over the lookups is a sum over the bags and their places. -/
theorem sum_lookups (f : Fin 320 → Fin 256 → EReal) : ∑ n : Fin 81920, f (bagOf n) (placeOf n) = ∑ b, ∑ s, f b s := by
  rw [← Fintype.sum_prod_type']
  refine Fintype.sum_bijective (fun n : Fin 81920 => (bagOf n, placeOf n)) ?_ _ _ fun _ => rfl
  rw [Fintype.bijective_iff_injective_and_card]
  constructor
  · intro a b h
    have h1 := congrArg (fun q => q.1.val) h
    have h2 := congrArg (fun q => q.2.val) h
    simp only at h1 h2
    exact Fin.ext (by omega)
  · simp

/-- The reference's summed gradients. -/
theorem v6_apply (x4 : Vec Ideal S320x256 .i32) (x5 : Vec Ideal S320x384 .f32) (u : Fin 20480) (d : Fin 384) :
    val_main_v6 (F := Ideal) x4 x5 (ix2 u d)
      = Row.sumPlain (fun b s => (x4 (ix2 b s)).toInt = (u.val : ℤ)) (fun b => x5 (ix2 b d)) := by
  have h : val_main_v6 (F := Ideal) x4 x5 (ix2 u d) = val_main_v4 (F := Ideal) (ix2 u d)
      + ∑ j ∈ Finset.univ.filter (fun j => scatter_S20480x384_S81920x1_S81920x384_1_0_0_1.resultIdx? j (val_main_v5 (F := Ideal) x4) = some (ix2 u d)),
        val_main_v2 (F := Ideal) x5 j := rfl
  rw [h, zero_apply, zero_add, Finset.sum_filter, Idealize.ShloMosaic.sum_idx2]
  unfold Row.sumPlain
  rw [← sum_lookups fun b s => if (x4 (ix2 b s)).toInt = (u.val : ℤ) then x5 (ix2 b d) else 0]
  refine Finset.sum_congr rfl fun n _ => ?_
  have hl : ∀ e : Fin 384, (scatter_S20480x384_S81920x1_S81920x384_1_0_0_1.resultIdx? (ix2 n e) (val_main_v5 (F := Ideal) x4) = some (ix2 u d))
      ↔ (x4 (ix2 (bagOf n) (placeOf n))).toInt = (u.val : ℤ) ∧ e = d := fun e => by
    rw [← idx_apply x4 n]
    exact lands_row _ rfl rfl rfl rfl _ n e u d
  rw [Finset.sum_eq_single d]
  · rw [upd_apply]
    refine if_congr ((hl d).trans (and_iff_left rfl)) rfl rfl
  · intro e _ he
    exact if_neg fun q => he ((hl e).1 q).2
  · exact fun q => absurd (Finset.mem_univ d) q

end Cert.ReferenceIdeal.Read
-- ==== Proof.Value.RefRow.lean ====
/-
  The reference's four results, at a row: the row formulas over the plain per-row gradient sums.
-/
module

public import proofs.«01_k».proof.Proof.Value.RefCode
public import proofs.«01_k».proof.Proof.Value.RefGrad
public import proofs.«01_k».proof.Proof.Value.Row

@[expose] public section

set_option maxRecDepth 16384

noncomputable section

open Idealize.ShloMosaic Idealize.ShloMosaic.TcCoe Idealize.SL.Sem

namespace Cert.ReferenceIdeal.Read

open Cert.ReferenceIdeal Cert.ReferenceIdeal.Gen

variable (x0 : Vec Ideal S160x48x128 .i32) (x1 x2 x3 : Vec Ideal S20480 .f32) (x4 : Vec Ideal S320x256 .i32)
  (x5 : Vec Ideal S320x384 .f32) (x6 : Vec Ideal S20480x384 .i32)

/-- The gradient of a row: over the bags and slots that look the row up, the bag's gradient. -/
abbrev refG (u : Fin 20480) (d : Fin 384) : EReal :=
  Row.sumPlain (fun (b : Fin 320) (s : Fin 256) => (x4 (ix2 b s)).toInt = (u.val : ℤ)) (fun b => x5 (ix2 b d))

/-- The new values of a row. -/
abbrev refW (u : Fin 20480) (d : Fin 384) : EReal :=
  Row.newVal (Row.codeOf (wordsOf x0 u)) (x1 (ix1 u)) (x2 (ix1 u)) (x3 (ix1 u)) (refG x4 x5 u) d

theorem v49_row (u : Fin 20480) : val_main_v49 (F := Ideal) x3 x4 x5 (ix1 u) = Row.state (refG x4 x5 u) (x3 (ix1 u)) := by
  have h : val_main_v49 (F := Ideal) x3 x4 x5 (ix1 u) = x3 (ix1 u) + Ideal.div (∑ x : Fin 384, val_main_v6 (F := Ideal) x4 x5 (ix2 u x) * val_main_v6 (F := Ideal) x4 x5 (ix2 u x)) Row.cN := by
    pointwise [val_main_v49, val_main_v48, val_main_v47, val_main_v46, val_main_v45, val_main_cst_9, val_main_cst_10]
  rw [h]
  simp only [v6_apply]
  rfl

theorem v58_row (u : Fin 20480) (d : Fin 384) : val_main_v58 (F := Ideal) x0 x1 x2 x3 x4 x5 (ix2 u d) = refW x0 x1 x2 x3 x4 x5 u d := by
  have h : val_main_v58 (F := Ideal) x0 x1 x2 x3 x4 x5 (ix2 u d) = val_main_v38 (F := Ideal) x0 (ix2 u d) * x1 (ix1 u) + x2 (ix1 u)
      - Ideal.div Row.cLR (Ideal.sqrt (val_main_v49 (F := Ideal) x3 x4 x5 (ix1 u)) + Row.cEps) * val_main_v6 (F := Ideal) x4 x5 (ix2 u d) := by
    pointwise [val_main_v58, val_main_v57, val_main_v56, val_main_v55, val_main_v54, val_main_v53, val_main_cst_12, val_main_v52, val_main_v51, val_main_cst_11, val_main_v50, val_main_v44, val_main_v43, val_main_v42, val_main_v41, val_main_v40, val_main_v39]
  rw [h, v38_at, v49_row, v6_apply]
  rfl

theorem v59_row (u : Fin 20480) : val_main_v59 (F := Ideal) x0 x1 x2 x3 x4 x5 (ix1 u) = Row.low (refW x0 x1 x2 x3 x4 x5 u) := by
  have h : val_main_v59 (F := Ideal) x0 x1 x2 x3 x4 x5 (ix1 u) = Finset.fold min Row.cTop (fun x : Fin 384 => val_main_v58 (F := Ideal) x0 x1 x2 x3 x4 x5 (ix2 u x)) Finset.univ := by
    pointwise [val_main_v59, val_main_cst_13]
  rw [h]
  simp only [v58_row]
  rfl

theorem v60_row (u : Fin 20480) : val_main_v60 (F := Ideal) x0 x1 x2 x3 x4 x5 (ix1 u) = Row.high (refW x0 x1 x2 x3 x4 x5 u) := by
  have h : val_main_v60 (F := Ideal) x0 x1 x2 x3 x4 x5 (ix1 u) = Finset.fold max Row.cBot (fun x : Fin 384 => val_main_v58 (F := Ideal) x0 x1 x2 x3 x4 x5 (ix2 u x)) Finset.univ := by
    pointwise [val_main_v60, val_main_cst_14]
  rw [h]
  simp only [v58_row]
  rfl

theorem v61_row (u : Fin 20480) : val_main_v61 (F := Ideal) x0 x1 x2 x3 x4 x5 (ix1 u)
    = Row.high (refW x0 x1 x2 x3 x4 x5 u) - Row.low (refW x0 x1 x2 x3 x4 x5 u) := by
  rw [val_main_v61_apply, v59_row, v60_row]
  rfl

theorem v63_row (u : Fin 20480) : val_main_v63 (F := Ideal) x0 x1 x2 x3 x4 x5 (ix1 u)
    = Ideal.div (Row.high (refW x0 x1 x2 x3 x4 x5 u) - Row.low (refW x0 x1 x2 x3 x4 x5 u)) Row.c15 := by
  rw [val_main_v63_apply, v61_row, val_main_v62_apply]
  rfl

theorem v67_row (u : Fin 20480) : val_main_v67 (F := Ideal) x0 x1 x2 x3 x4 x5 (ix1 u) = Row.inv (refW x0 x1 x2 x3 x4 x5 u) := by
  rw [val_main_v67_apply, val_main_v65_apply, v61_row, val_main_v66_apply, val_main_v64_apply]
  rfl

theorem v82_row (u : Fin 20480) (d : Fin 384) : val_main_v82 (F := Ideal) x0 x1 x2 x3 x4 x5 x6 (ix2 u d)
    = Ideal.fptosi 32 (Row.code (refW x0 x1 x2 x3 x4 x5 u) (Row.rnd (x6 (ix2 u d))) d) := by
  have h : val_main_v82 (F := Ideal) x0 x1 x2 x3 x4 x5 x6 (ix2 u d) = Ideal.fptosi 32 (Row.clip
      ((val_main_v58 (F := Ideal) x0 x1 x2 x3 x4 x5 (ix2 u d) - val_main_v59 (F := Ideal) x0 x1 x2 x3 x4 x5 (ix1 u)) * val_main_v67 (F := Ideal) x0 x1 x2 x3 x4 x5 (ix1 u)
        + (((IntOp.shrui .host (x6 (ix2 u d)) 8#32).toNat : ℝ) : EReal) * Ideal.ofBits .f32 864026624#32)) := by
    pointwise [val_main_v82, val_main_v81, val_main_call0_v4, val_main_call0_v3, val_main_call0_v2, val_main_call0_v1, val_main_call0_v0, val_main_cst_21, val_main_cst_20, val_main_v80, val_main_v79, val_main_v78, val_main_v77, val_main_v76, val_main_v75, val_main_v74, val_main_v73, val_main_v72, val_main_v71, val_main_v70, val_main_v69, val_main_v68, val_main_cst_19, val_main_c_18]
    refine congrArg (Ideal.fptosi 32) ?_
    unfold Row.clip
    show min Row.c15 (max (Ideal.ofBits .f32 0#32) _) = min Row.c15 (max 0 _)
    rw [Ideal.ofBits_zero_f32]
    rfl
  rw [h, v58_row, v59_row, v67_row, Row.shrui_host]
  rfl

theorem v88_row (u : Fin 20480) (d : Fin 192) : val_main_v88 (F := Ideal) x0 x1 x2 x3 x4 x5 x6 (ix2 u d)
    = BitVec.setWidth 8 (Ideal.fptosi 32 (Row.code (refW x0 x1 x2 x3 x4 x5 u) (Row.rnd (x6 (ix2 u (Row.evenCol d)))) (Row.evenCol d))
        ||| (Ideal.fptosi 32 (Row.code (refW x0 x1 x2 x3 x4 x5 u) (Row.rnd (x6 (ix2 u (Row.oddCol d)))) (Row.oddCol d))) <<< 4) := by
  have h : val_main_v88 (F := Ideal) x0 x1 x2 x3 x4 x5 x6 (ix2 u d) = BitVec.setWidth 8 (IntOp.ori (val_main_v82 (F := Ideal) x0 x1 x2 x3 x4 x5 x6 (ix2 u (Row.evenCol d)))
      (IntOp.shli .host (val_main_v82 (F := Ideal) x0 x1 x2 x3 x4 x5 x6 (ix2 u (Row.oddCol d))) 4#32)) := by
    pointwise [val_main_v88, val_main_v87, val_main_v86, val_main_v85, val_main_v84, val_main_v83, val_main_c_22]
  rw [h, v82_row, v82_row, Row.shli_host4]
  rfl

end Cert.ReferenceIdeal.Read
-- ==== Proof.Value.Equation.lean ====
/-
  The program's four results are the reference's, on equal arguments: at every row the two sides are the same row
  formulas, over the gradients added up in three pieces on one side and as they are on the other.
-/
module

public import proofs.«01_k».proof.Proof.Value.Result
public import proofs.«01_k».proof.Proof.Value.RefRow

@[expose] public section

set_option maxRecDepth 16384

noncomputable section

open Idealize.ShloMosaic Idealize.ShloMosaic.TcCoe Idealize.SL.Sem

namespace Cert.KernelIdeal.Gen

open Cert.KernelIdeal Cert.ReferenceIdeal.Read

variable (m : (ℓ : Loc nD τ sig) → Buf (Elt Ideal) ℓ) (ρ : Dev nD → PrngReg) (c : Dev nD)

/-- At every column of a row the two sums are equal, or both are infinite. -/
theorem sums_agree (u : Fin 20480) : Row.Agree (argG m c u) (refG (aSlots m c) (aGrad m c) u) := fun d =>
  Row.split_plain _ _

/-- The two rows of new values are one. -/
theorem newVals_eq (u : Fin 20480) :
    argW m c u = refW (aWords m c) (aScale m c) (aBias m c) (aMom m c) (aSlots m c) (aGrad m c) u :=
  Row.newVal_agree (sums_agree m c u) _ _ _ _

theorem state_eq : (W5 m ρ c (Proc.devRef .tc main_v12) : Vec Ideal S20480 .f32) = val_main_v49 (F := Ideal) (aMom m c) (aSlots m c) (aGrad m c) := by
  funext i
  have hi : i = ix1 (⟨(i 0).val, (i 0).isLt⟩ : Fin 20480) := by funext a; match a with | ⟨0, _⟩ => rfl
  rw [hi]
  refine (out_state m ρ c _).trans (Eq.trans ?_ (v49_row (aMom m c) (aSlots m c) (aGrad m c) _).symm)
  exact Row.state_agree (sums_agree m c _) _

theorem low_eq : (W5 m ρ c (Proc.devRef .tc main_v11) : Vec Ideal S20480 .f32)
    = val_main_v59 (F := Ideal) (aWords m c) (aScale m c) (aBias m c) (aMom m c) (aSlots m c) (aGrad m c) := by
  funext i
  have hi : i = ix1 (⟨(i 0).val, (i 0).isLt⟩ : Fin 20480) := by funext a; match a with | ⟨0, _⟩ => rfl
  rw [hi]
  refine (out_low m ρ c _).trans (Eq.trans ?_ (v59_row (aWords m c) (aScale m c) (aBias m c) (aMom m c) (aSlots m c) (aGrad m c) _).symm)
  rw [newVals_eq]

theorem scale_eq : (W5 m ρ c (Proc.devRef .tc main_v10) : Vec Ideal S20480 .f32)
    = val_main_v63 (F := Ideal) (aWords m c) (aScale m c) (aBias m c) (aMom m c) (aSlots m c) (aGrad m c) := by
  funext i
  have hi : i = ix1 (⟨(i 0).val, (i 0).isLt⟩ : Fin 20480) := by funext a; match a with | ⟨0, _⟩ => rfl
  rw [hi]
  refine (out_scale m ρ c _).trans (Eq.trans ?_ (v63_row (aWords m c) (aScale m c) (aBias m c) (aMom m c) (aSlots m c) (aGrad m c) _).symm)
  rw [newVals_eq]

theorem codes_eq : (W5 m ρ c (Proc.devRef .tc main_v9) : Vec Ideal S20480x192 .i8)
    = val_main_v88 (F := Ideal) (aWords m c) (aScale m c) (aBias m c) (aMom m c) (aSlots m c) (aGrad m c) (aRnd m c) := by
  funext i
  have hi : i = ix2 (⟨(i 0).val, (i 0).isLt⟩ : Fin 20480) (⟨(i 1).val, (i 1).isLt⟩ : Fin 192) := by
    funext a
    match a with
    | ⟨0, _⟩ => rfl
    | ⟨1, _⟩ => rfl
  rw [hi]
  refine (out_codes m ρ c _ _).trans (Eq.trans ?_ (v88_row (aWords m c) (aScale m c) (aBias m c) (aMom m c) (aSlots m c) (aGrad m c) (aRnd m c) _ _).symm)
  rw [newVals_eq]

end Cert.KernelIdeal.Gen
-- ==== Proof.lean ====
module

public import proofs.«01_k».proof.Defs
public import proofs.«01_k».proof.Proof.Gen.ReferenceIdeal.Run
public import proofs.«01_k».proof.Proof.Gen.ReferenceIdeal.Read
public import proofs.«01_k».proof.Proof.Run.Main
public import proofs.«01_k».proof.Proof.RunIdeal.Main
public import proofs.«01_k».proof.Proof.Value.Equation

@[expose] public section

noncomputable section

namespace Cert.Proof

open Idealize.ShloMosaic Idealize.SL.Sem

/-- The frame of the program as printed. -/
theorem frame_kernel [Cert.Kernel.Facts] : Cert.quiescent_Kernel := fun m ρ _ => Cert.Kernel.Gen.frame m ρ

/-- The frame of its idealization. -/
theorem frame_ideal [Cert.KernelIdeal.Facts] : Cert.quiescent_KernelIdeal := fun m ρ _ => Cert.KernelIdeal.Gen.frame m ρ

/-- The frame of the reference: its run read at the arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Over the extended reals the program and the reference end with equal results, from equal arguments: every run of
    the program ends with its buffers at `W5`, and there the four results are the reference's values. -/
theorem algebraic_ideal : Cert.algebraic_KernelIdeal_ReferenceIdeal (hKernelIdeal := Cert.KernelIdeal.Gen.facts) (hReferenceIdeal := Cert.ReferenceIdeal.Gen.facts) := by
  intro m g m' g' _ hargs
  refine ⟨fun c => KernelIdeal.Gen.W5 m g c (Proc.devRef .tc KernelIdeal.main_v9), fun c => KernelIdeal.Gen.W5 m g c (Proc.devRef .tc KernelIdeal.main_v10),
    fun c => KernelIdeal.Gen.W5 m g c (Proc.devRef .tc KernelIdeal.main_v11), fun c => KernelIdeal.Gen.W5 m g c (Proc.devRef .tc KernelIdeal.main_v12), ?_, ?_⟩
  · exact (θ_run KernelIdeal.defs _ _).mono (fun s h c =>
      ⟨h.1 c _ (KernelIdeal.Gen.mem_uc KernelIdeal.main_v9 (by decide)), h.1 c _ (KernelIdeal.Gen.mem_uc KernelIdeal.main_v10 (by decide)),
       h.1 c _ (KernelIdeal.Gen.mem_uc KernelIdeal.main_v11 (by decide)), h.1 c _ (KernelIdeal.Gen.mem_uc KernelIdeal.main_v12 (by decide)),
       (h.1 c _ (KernelIdeal.Gen.mem_uc KernelIdeal.main_arg0 (by decide))).trans (KernelIdeal.Gen.W5_main_arg0 m g c),
       (h.1 c _ (KernelIdeal.Gen.mem_uc KernelIdeal.main_arg1 (by decide))).trans (KernelIdeal.Gen.W5_main_arg1 m g c),
       (h.1 c _ (KernelIdeal.Gen.mem_uc KernelIdeal.main_arg2 (by decide))).trans (KernelIdeal.Gen.W5_main_arg2 m g c),
       (h.1 c _ (KernelIdeal.Gen.mem_uc KernelIdeal.main_arg3 (by decide))).trans (KernelIdeal.Gen.W5_main_arg3 m g c),
       (h.1 c _ (KernelIdeal.Gen.mem_uc KernelIdeal.main_arg4 (by decide))).trans (KernelIdeal.Gen.W5_main_arg4 m g c),
       (h.1 c _ (KernelIdeal.Gen.mem_uc KernelIdeal.main_arg5 (by decide))).trans (KernelIdeal.Gen.W5_main_arg5 m g c),
       (h.1 c _ (KernelIdeal.Gen.mem_uc KernelIdeal.main_arg6 (by decide))).trans (KernelIdeal.Gen.W5_main_arg6 m g c)⟩) (KernelIdeal.Gen.run_all m g)
  · refine (θ_run ReferenceIdeal.defs _ _).mono (fun s h c => ?_) (Cert.ReferenceIdeal.Value.run (F := Ideal) m' g')
    obtain ⟨h88, h63, h59, h49, hrest⟩ := h c
    obtain ⟨e0, e1, e2, e3, e4, e5, e6⟩ := hargs c
    refine ⟨?_, ?_, ?_, ?_, hrest⟩
    · rw [h88, Cert.ReferenceIdeal.Read.val_main_v88_eq, e0, e1, e2, e3, e4, e5, e6]
      exact (KernelIdeal.Gen.codes_eq m g c).symm
    · rw [h63, Cert.ReferenceIdeal.Read.val_main_v63_eq, e0, e1, e2, e3, e4, e5]
      exact (KernelIdeal.Gen.scale_eq m g c).symm
    · rw [h59, Cert.ReferenceIdeal.Read.val_main_v59_eq, e0, e1, e2, e3, e4, e5]
      exact (KernelIdeal.Gen.low_eq m g c).symm
    · rw [h49, Cert.ReferenceIdeal.Read.val_main_v49_eq, e3, e4, e5]
      exact (KernelIdeal.Gen.state_eq m g c).symm

theorem claim : Cert.Claim := ⟨Cert.Kernel.Gen.facts, Cert.KernelIdeal.Gen.facts, Cert.ReferenceIdeal.Gen.facts,
  frame_kernel, frame_ideal, frame_reference, trivial, algebraic_ideal⟩

end Cert.Proof

end
